-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4x6x512x21 : Shape := ⟨5, ![8, 4, 6, 512, 21]⟩
abbrev S20x21x64 : Shape := ⟨3, ![20, 21, 64]⟩
abbrev S21 : Shape := ⟨1, ![21]⟩
abbrev S8x6x21x4x512 : Shape := ⟨5, ![8, 6, 21, 4, 512]⟩
abbrev S48x21x2048 : Shape := ⟨3, ![48, 21, 2048]⟩
abbrev S1x21 : Shape := ⟨2, ![1, 21]⟩
abbrev S8x4x6x64x493 : Shape := ⟨5, ![8, 4, 6, 64, 493]⟩
abbrev S8x6x4x64 : Shape := ⟨4, ![8, 6, 4, 64]⟩
abbrev S8x4x6x64 : Shape := ⟨4, ![8, 4, 6, 64]⟩
abbrev S8x4x6x493x64 : Shape := ⟨5, ![8, 4, 6, 493, 64]⟩
abbrev S1x21x2048 : Shape := ⟨3, ![1, 21, 2048]⟩
abbrev S1x4x1x64x493 : Shape := ⟨5, ![1, 4, 1, 64, 493]⟩
abbrev S1x1x4x64 : Shape := ⟨4, ![1, 1, 4, 64]⟩
abbrev S3x64x256 : Shape := ⟨3, ![3, 64, 256]⟩
abbrev S20x64 : Shape := ⟨2, ![20, 64]⟩
abbrev S20x1x64 : Shape := ⟨3, ![20, 1, 64]⟩
abbrev S1x21x1 : Shape := ⟨3, ![1, 21, 1]⟩
abbrev S64x11 : Shape := ⟨2, ![64, 11]⟩
abbrev S1x21x64 : Shape := ⟨3, ![1, 21, 64]⟩
abbrev S21x64 : Shape := ⟨2, ![21, 64]⟩
abbrev S64x21 : Shape := ⟨2, ![64, 21]⟩
abbrev S64x32 : Shape := ⟨2, ![64, 32]⟩
abbrev S64x256 : Shape := ⟨2, ![64, 256]⟩
abbrev S1x64x256 : Shape := ⟨3, ![1, 64, 256]⟩
abbrev S64x128 : Shape := ⟨2, ![64, 128]⟩
abbrev S21x2048 : Shape := ⟨2, ![21, 2048]⟩
abbrev S11x2048 : Shape := ⟨2, ![11, 2048]⟩
abbrev S64x2048 : Shape := ⟨2, ![64, 2048]⟩
abbrev S32x2048 : Shape := ⟨2, ![32, 2048]⟩
abbrev S256x2048 : Shape := ⟨2, ![256, 2048]⟩
abbrev S128x2048 : Shape := ⟨2, ![128, 2048]⟩
abbrev S64x493 : Shape := ⟨2, ![64, 493]⟩
abbrev S1x1x1x64x493 : Shape := ⟨5, ![1, 1, 1, 64, 493]⟩
abbrev S64 : Shape := ⟨1, ![64]⟩
abbrev S1x1x1x64 : Shape := ⟨4, ![1, 1, 1, 64]⟩

abbrev nBuf : Space → Nat
  | .hbm => 11
  | .vmem => 10
  | .smem => 0
  | _ => 0

abbrev bufTy : (tb : Table) → Fin (tcTables nBuf tb) → BufTy
  | .hbm, ⟨0, _⟩ => ⟨S8x4x6x512x21, .f32⟩
  | .hbm, ⟨1, _⟩ => ⟨S20x21x64, .f32⟩
  | .hbm, ⟨2, _⟩ => ⟨S21, .f32⟩
  | .hbm, ⟨3, _⟩ => ⟨S8x6x21x4x512, .f32⟩
  | .hbm, ⟨4, _⟩ => ⟨S48x21x2048, .f32⟩
  | .hbm, ⟨5, _⟩ => ⟨S1x21, .f32⟩
  | .hbm, ⟨6, _⟩ => ⟨S20x21x64, .f32⟩
  | .hbm, ⟨7, _⟩ => ⟨S8x4x6x64x493, .f32⟩
  | .hbm, ⟨8, _⟩ => ⟨S8x6x4x64, .f32⟩
  | .hbm, ⟨9, _⟩ => ⟨S8x4x6x64, .f32⟩
  | .hbm, ⟨10, _⟩ => ⟨S8x4x6x493x64, .f32⟩
  | .local _ .vmem, ⟨0, _⟩ => ⟨S20x21x64, .f32⟩
  | .local _ .vmem, ⟨1, _⟩ => ⟨S1x21, .f32⟩
  | .local _ .vmem, ⟨2, _⟩ => ⟨S1x21x2048, .f32⟩
  | .local _ .vmem, ⟨3, _⟩ => ⟨S1x21x2048, .f32⟩
  | .local _ .vmem, ⟨4, _⟩ => ⟨S20x21x64, .f32⟩
  | .local _ .vmem, ⟨5, _⟩ => ⟨S1x4x1x64x493, .f32⟩
  | .local _ .vmem, ⟨6, _⟩ => ⟨S1x4x1x64x493, .f32⟩
  | .local _ .vmem, ⟨7, _⟩ => ⟨S1x1x4x64, .f32⟩
  | .local _ .vmem, ⟨8, _⟩ => ⟨S1x1x4x64, .f32⟩
  | .local _ .vmem, ⟨9, _⟩ => ⟨S3x64x256, .bf16⟩
  | _, _ => ⟨S8x4x6x512x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_call0_v3_1 : Ref sig .tc := ⟨.hbm, 7, rfl⟩
abbrev main_call0_v3_2 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 5 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_5 (i : grid0.Coords) : Fin 4 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 1 → Memref sig .tc .vmem S20x21x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x21x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x21x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x1x64x493 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4x6x512x21 : Shape := ⟨5, ![8, 4, 6, 512, 21]⟩
abbrev S20x21x64 : Shape := ⟨3, ![20, 21, 64]⟩
abbrev S21 : Shape := ⟨1, ![21]⟩
abbrev S_ : Shape := ⟨0, ![]⟩
abbrev S20x64 : Shape := ⟨2, ![20, 64]⟩
abbrev S20x1x64 : Shape := ⟨3, ![20, 1, 64]⟩
abbrev S1x21x1 : Shape := ⟨3, ![1, 21, 1]⟩
abbrev S8x4x6x493x64 : Shape := ⟨5, ![8, 4, 6, 493, 64]⟩
abbrev S8x4x6x493x21 : Shape := ⟨5, ![8, 4, 6, 493, 21]⟩
abbrev S1x21x64 : Shape := ⟨3, ![1, 21, 64]⟩
abbrev S21x64 : Shape := ⟨2, ![21, 64]⟩
abbrev S8x4x6x64 : Shape := ⟨4, ![8, 4, 6, 64]⟩

abbrev nBuf : Space → Nat
  | .hbm => 128
  | .vmem => 0
  | .smem => 0
  | _ => 0

abbrev bufTy : (tb : Table) → Fin (tcTables nBuf tb) → BufTy
  | .hbm, ⟨0, _⟩ => ⟨S8x4x6x512x21, .f32⟩
  | .hbm, ⟨1, _⟩ => ⟨S20x21x64, .f32⟩
  | .hbm, ⟨2, _⟩ => ⟨S21, .f32⟩
  | .hbm, ⟨3, _⟩ => ⟨S_, .f32⟩
  | .hbm, ⟨4, _⟩ => ⟨S20x64, .f32⟩
  | .hbm, ⟨5, _⟩ => ⟨S_, .f32⟩
  | .hbm, ⟨6, _⟩ => ⟨S20x64, .f32⟩
  | .hbm, ⟨7, _⟩ => ⟨S20x64, .f32⟩
  | .hbm, ⟨8, _⟩ => ⟨S20x1x64, .f32⟩
  | .hbm, ⟨9, _⟩ => ⟨S20x21x64, .f32⟩
  | .hbm, ⟨10, _⟩ => ⟨S20x21x64, .f32⟩
  | .hbm, ⟨11, _⟩ => ⟨S20x21x64, .f32⟩
  | .hbm, ⟨12, _⟩ => ⟨S_, .f32⟩
  | .hbm, ⟨13, _⟩ => ⟨S20x64, .f32⟩
  | .hbm, ⟨14, _⟩ => ⟨S20x1x64, .f32⟩
  | .hbm, ⟨15, _⟩ => ⟨S20x21x64, .f32⟩
  | .hbm, ⟨16, _⟩ => ⟨S20x21x64, .f32⟩
  | .hbm, ⟨17, _⟩ => ⟨S1x21x1, .f32⟩
  | .hbm, ⟨18, _⟩ => ⟨S20x21x64, .f32⟩
  | .hbm, ⟨19, _⟩ => ⟨S20x21x64, .f32⟩
  | .hbm, ⟨20, _⟩ => ⟨S_, .f32⟩
  | .hbm, ⟨21, _⟩ => ⟨S20x21x64, .f32⟩
  | .hbm, ⟨22, _⟩ => ⟨S20x21x64, .f32⟩
  | .hbm, ⟨23, _⟩ => ⟨S20x21x64, .f32⟩
  | .hbm, ⟨24, _⟩ => ⟨S_, .f32⟩
  | .hbm, ⟨25, _⟩ => ⟨S8x4x6x493x64, .f32⟩
  | .hbm, ⟨26, _⟩ => ⟨S8x4x6x493x21, .f32⟩
  | .hbm, ⟨27, _⟩ => ⟨S1x21x64, .f32⟩
  | .hbm, ⟨28, _⟩ => ⟨S21x64, .f32⟩
  | .hbm, ⟨29, _⟩ => ⟨S8x4x6x493x64, .f32⟩
  | .hbm, ⟨30, _⟩ => ⟨S8x4x6x493x64, .f32⟩
  | .hbm, ⟨31, _⟩ => ⟨S8x4x6x493x21, .f32⟩
  | .hbm, ⟨32, _⟩ => ⟨S1x21x64, .f32⟩
  | .hbm, ⟨33, _⟩ => ⟨S21x64, .f32⟩
  | .hbm, ⟨34, _⟩ => ⟨S8x4x6x493x64, .f32⟩
  | .hbm, ⟨35, _⟩ => ⟨S8x4x6x493x64, .f32⟩
  | .hbm, ⟨36, _⟩ => ⟨S8x4x6x493x21, .f32⟩
  | .hbm, ⟨37, _⟩ => ⟨S1x21x64, .f32⟩
  | .hbm, ⟨38, _⟩ => ⟨S21x64, .f32⟩
  | .hbm, ⟨39, _⟩ => ⟨S8x4x6x493x64, .f32⟩
  | .hbm, ⟨40, _⟩ => ⟨S8x4x6x493x64, .f32⟩
  | .hbm, ⟨41, _⟩ => ⟨S8x4x6x493x21, .f32⟩
  | .hbm, ⟨42, _⟩ => ⟨S1x21x64, .f32⟩
  | .hbm, ⟨43, _⟩ => ⟨S21x64, .f32⟩
  | .hbm, ⟨44, _⟩ => ⟨S8x4x6x493x64, .f32⟩
  | .hbm, ⟨45, _⟩ => ⟨S8x4x6x493x64, .f32⟩
  | .hbm, ⟨46, _⟩ => ⟨S8x4x6x493x21, .f32⟩
  | .hbm, ⟨47, _⟩ => ⟨S1x21x64, .f32⟩
  | .hbm, ⟨48, _⟩ => ⟨S21x64, .f32⟩
  | .hbm, ⟨49, _⟩ => ⟨S8x4x6x493x64, .f32⟩
  | .hbm, ⟨50, _⟩ => ⟨S8x4x6x493x64, .f32⟩
  | .hbm, ⟨51, _⟩ => ⟨S8x4x6x493x21, .f32⟩
  | .hbm, ⟨52, _⟩ => ⟨S1x21x64, .f32⟩
  | .hbm, ⟨53, _⟩ => ⟨S21x64, .f32⟩
  | .hbm, ⟨54, _⟩ => ⟨S8x4x6x493x64, .f32⟩
  | .hbm, ⟨55, _⟩ => ⟨S8x4x6x493x64, .f32⟩
  | .hbm, ⟨56, _⟩ => ⟨S8x4x6x493x21, .f32⟩
  | .hbm, ⟨57, _⟩ => ⟨S1x21x64, .f32⟩
  | .hbm, ⟨58, _⟩ => ⟨S21x64, .f32⟩
  | .hbm, ⟨59, _⟩ => ⟨S8x4x6x493x64, .f32⟩
  | .hbm, ⟨60, _⟩ => ⟨S8x4x6x493x64, .f32⟩
  | .hbm, ⟨61, _⟩ => ⟨S8x4x6x493x21, .f32⟩
  | .hbm, ⟨62, _⟩ => ⟨S1x21x64, .f32⟩
  | .hbm, ⟨63, _⟩ => ⟨S21x64, .f32⟩
  | .hbm, ⟨64, _⟩ => ⟨S8x4x6x493x64, .f32⟩
  | .hbm, ⟨65, _⟩ => ⟨S8x4x6x493x64, .f32⟩
  | .hbm, ⟨66, _⟩ => ⟨S8x4x6x493x21, .f32⟩
  | .hbm, ⟨67, _⟩ => ⟨S1x21x64, .f32⟩
  | .hbm, ⟨68, _⟩ => ⟨S21x64, .f32⟩
  | .hbm, ⟨69, _⟩ => ⟨S8x4x6x493x64, .f32⟩
  | .hbm, ⟨70, _⟩ => ⟨S8x4x6x493x64, .f32⟩
  | .hbm, ⟨71, _⟩ => ⟨S8x4x6x493x21, .f32⟩
  | .hbm, ⟨72, _⟩ => ⟨S1x21x64, .f32⟩
  | .hbm, ⟨73, _⟩ => ⟨S21x64, .f32⟩
  | .hbm, ⟨74, _⟩ => ⟨S8x4x6x493x64, .f32⟩
  | .hbm, ⟨75, _⟩ => ⟨S8x4x6x493x64, .f32⟩
  | .hbm, ⟨76, _⟩ => ⟨S8x4x6x493x21, .f32⟩
  | .hbm, ⟨77, _⟩ => ⟨S1x21x64, .f32⟩
  | .hbm, ⟨78, _⟩ => ⟨S21x64, .f32⟩
  | .hbm, ⟨79, _⟩ => ⟨S8x4x6x493x64, .f32⟩
  | .hbm, ⟨80, _⟩ => ⟨S8x4x6x493x64, .f32⟩
  | .hbm, ⟨81, _⟩ => ⟨S8x4x6x493x21, .f32⟩
  | .hbm, ⟨82, _⟩ => ⟨S1x21x64, .f32⟩
  | .hbm, ⟨83, _⟩ => ⟨S21x64, .f32⟩
  | .hbm, ⟨84, _⟩ => ⟨S8x4x6x493x64, .f32⟩
  | .hbm, ⟨85, _⟩ => ⟨S8x4x6x493x64, .f32⟩
  | .hbm, ⟨86, _⟩ => ⟨S8x4x6x493x21, .f32⟩
  | .hbm, ⟨87, _⟩ => ⟨S1x21x64, .f32⟩
  | .hbm, ⟨88, _⟩ => ⟨S21x64, .f32⟩
  | .hbm, ⟨89, _⟩ => ⟨S8x4x6x493x64, .f32⟩
  | .hbm, ⟨90, _⟩ => ⟨S8x4x6x493x64, .f32⟩
  | .hbm, ⟨91, _⟩ => ⟨S8x4x6x493x21, .f32⟩
  | .hbm, ⟨92, _⟩ => ⟨S1x21x64, .f32⟩
  | .hbm, ⟨93, _⟩ => ⟨S21x64, .f32⟩
  | .hbm, ⟨94, _⟩ => ⟨S8x4x6x493x64, .f32⟩
  | .hbm, ⟨95, _⟩ => ⟨S8x4x6x493x64, .f32⟩
  | .hbm, ⟨96, _⟩ => ⟨S8x4x6x493x21, .f32⟩
  | .hbm, ⟨97, _⟩ => ⟨S1x21x64, .f32⟩
  | .hbm, ⟨98, _⟩ => ⟨S21x64, .f32⟩
  | .hbm, ⟨99, _⟩ => ⟨S8x4x6x493x64, .f32⟩
  | .hbm, ⟨100, _⟩ => ⟨S8x4x6x493x64, .f32⟩
  | .hbm, ⟨101, _⟩ => ⟨S8x4x6x493x21, .f32⟩
  | .hbm, ⟨102, _⟩ => ⟨S1x21x64, .f32⟩
  | .hbm, ⟨103, _⟩ => ⟨S21x64, .f32⟩
  | .hbm, ⟨104, _⟩ => ⟨S8x4x6x493x64, .f32⟩
  | .hbm, ⟨105, _⟩ => ⟨S8x4x6x493x64, .f32⟩
  | .hbm, ⟨106, _⟩ => ⟨S8x4x6x493x21, .f32⟩
  | .hbm, ⟨107, _⟩ => ⟨S1x21x64, .f32⟩
  | .hbm, ⟨108, _⟩ => ⟨S21x64, .f32⟩
  | .hbm, ⟨109, _⟩ => ⟨S8x4x6x493x64, .f32⟩
  | .hbm, ⟨110, _⟩ => ⟨S8x4x6x493x64, .f32⟩
  | .hbm, ⟨111, _⟩ => ⟨S8x4x6x493x21, .f32⟩
  | .hbm, ⟨112, _⟩ => ⟨S1x21x64, .f32⟩
  | .hbm, ⟨113, _⟩ => ⟨S21x64, .f32⟩
  | .hbm, ⟨114, _⟩ => ⟨S8x4x6x493x64, .f32⟩
  | .hbm, ⟨115, _⟩ => ⟨S8x4x6x493x64, .f32⟩
  | .hbm, ⟨116, _⟩ => ⟨S8x4x6x493x21, .f32⟩
  | .hbm, ⟨117, _⟩ => ⟨S1x21x64, .f32⟩
  | .hbm, ⟨118, _⟩ => ⟨S21x64, .f32⟩
  | .hbm, ⟨119, _⟩ => ⟨S8x4x6x493x64, .f32⟩
  | .hbm, ⟨120, _⟩ => ⟨S8x4x6x493x64, .f32⟩
  | .hbm, ⟨121, _⟩ => ⟨S8x4x6x493x21, .f32⟩
  | .hbm, ⟨122, _⟩ => ⟨S1x21x64, .f32⟩
  | .hbm, ⟨123, _⟩ => ⟨S21x64, .f32⟩
  | .hbm, ⟨124, _⟩ => ⟨S8x4x6x493x64, .f32⟩
  | .hbm, ⟨125, _⟩ => ⟨S8x4x6x493x64, .f32⟩
  | .hbm, ⟨126, _⟩ => ⟨S_, .f32⟩
  | .hbm, ⟨127, _⟩ => ⟨S8x4x6x64, .f32⟩
  | _, _ => ⟨S8x4x6x512x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_cst_4 : Ref sig .tc := ⟨.hbm, 126, rfl⟩
abbrev main_v118 : Ref sig .tc := ⟨.hbm, 127, rfl⟩

abbrev nD : Nat := 1
abbrev τ : Topo := Topo.v7x

variable {F : FTy → Type} [FloatOps F]
-- ==== Proof.Conv.Body.lean ====
module

public import Idealize.ShloMosaic.Lib.Pipeline.Value
public import Idealize.ShloMosaic.Lib.VecWindow
public import proofs.«01_k».proof.Proof.Gen.KernelIdeal.Skeleton
public import proofs.«01_k».proof.Proof.Gen.KernelIdeal.Frame

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What one grid point's body leaves in its blocks, and the two triples of the body: at the first point, which fills the
    filter table, and at every other point, which only reads it. -/

local notation "𝕄" => MT nD τ sig Unit (Elt F) ℕ (UR sig nD τ) ℕ

/-- The log-ratio filters: what the first point stores into the first result's block. -/
def filt (p : Vec F S20x21x64 .f32) (q : Vec F S1x21 .f32) : Vec F S20x21x64 .f32 := k0_pay2 p q

/-- Filters 0 to 7, transposed, each padded to 32 columns. -/
def row0 (p : Vec F S20x21x64 .f32) (q : Vec F S1x21 .f32) : Vec F S1x64x256 .bf16 :=
  k0_pay12 (k0_pay3 p q) k0_pay4 (k0_pay5 p q) (k0_pay6 p q) (k0_pay7 p q) (k0_pay8 p q) (k0_pay9 p q) (k0_pay10 p q) (k0_pay11 p q)

/-- Filters 8 to 15, laid out the same way. -/
def row1 (p : Vec F S20x21x64 .f32) (q : Vec F S1x21 .f32) : Vec F S1x64x256 .bf16 := k0_pay13 (k0_pay3 p q) k0_pay4

/-- Filters 16 to 19, laid out the same way, and 128 columns of zeros. -/
def row2 (p : Vec F S20x21x64 .f32) (q : Vec F S1x21 .f32) : Vec F S1x64x256 .bf16 :=
  k0_pay16 (k0_pay3 p q) k0_pay4 (k0_pay14 (k0_pay3 p q) k0_pay4) (k0_pay15 (k0_pay3 p q))

/-- Row 0 of the table. -/
abbrev tr0 : Rect S3x64x256 := Rect.unit ![0, 0, 0] S1x64x256.size inb_S3x64x256_S1x64x256_0_0_0
/-- Row 1 of the table. -/
abbrev tr1 : Rect S3x64x256 := Rect.unit ![1, 0, 0] S1x64x256.size inb_S3x64x256_S1x64x256_1_0_0
/-- Row 2 of the table. -/
abbrev tr2 : Rect S3x64x256 := Rect.unit ![2, 0, 0] S1x64x256.size inb_S3x64x256_S1x64x256_2_0_0

/-- The three stores that fill the filter table. -/
def tabStores (p : Vec F S20x21x64 .f32) (q : Vec F S1x21 .f32) : List (View.Piece (Elt F) S3x64x256 .bf16) :=
  [⟨tr2, row2 p q⟩, ⟨tr1, row1 p q⟩, ⟨tr0, row0 p q⟩]

/-- The filter table the first point leaves in the scratch. -/
def tab (p : Vec F S20x21x64 .f32) (q : Vec F S1x21 .f32) : Vec F S3x64x256 .bf16 := View.canon (tabStores p q)

/-- The accumulator of one point: all 20 filters applied to one slab of four sequences. -/
def acc (x : Vec F S1x21x2048 .f32) (r0 r1 r2 : Vec F S1x64x256 .bf16) : FVec F S64x2048 .f32 :=
  k0_pay24 (k0_pay17 x) k0_pay18 (k0_pay19 x r0) (k0_pay20 x) (k0_pay21 x) (k0_pay22 x) (k0_pay23 x) r1 r2

/-- The four stores into the scores' block. -/
def zStores (x : Vec F S1x21x2048 .f32) (r0 r1 r2 : Vec F S1x64x256 .bf16) : List (View.Piece (Elt F) S1x4x1x64x493 .f32) :=
  [⟨Rect.unit ![0, 3, 0, 0, 0] S1x1x1x64x493.size inb_S1x4x1x64x493_S1x1x1x64x493_0_3_0_0_0, k0_pay36 (acc x r0 r1 r2)⟩,
   ⟨Rect.unit ![0, 2, 0, 0, 0] S1x1x1x64x493.size inb_S1x4x1x64x493_S1x1x1x64x493_0_2_0_0_0, k0_pay33 (acc x r0 r1 r2)⟩,
   ⟨Rect.unit ![0, 1, 0, 0, 0] S1x1x1x64x493.size inb_S1x4x1x64x493_S1x1x1x64x493_0_1_0_0_0, k0_pay30 (acc x r0 r1 r2)⟩,
   ⟨Rect.unit ![0, 0, 0, 0, 0] S1x1x1x64x493.size inb_S1x4x1x64x493_S1x1x1x64x493_0_0_0_0_0,
     k0_pay26 (k0_pay17 x) k0_pay18 (k0_pay19 x r0) (k0_pay20 x) (k0_pay21 x) (k0_pay22 x) (k0_pay23 x) r1 r2⟩]

/-- The four stores into the maxima's block. -/
def sStores (x : Vec F S1x21x2048 .f32) (r0 r1 r2 : Vec F S1x64x256 .bf16) : List (View.Piece (Elt F) S1x1x4x64 .f32) :=
  [⟨Rect.unit ![0, 0, 3, 0] S1x1x1x64.size inb_S1x1x4x64_S1x1x1x64_0_0_3_0, k0_pay1 (k0_pay37 (acc x r0 r1 r2))⟩,
   ⟨Rect.unit ![0, 0, 2, 0] S1x1x1x64.size inb_S1x1x4x64_S1x1x1x64_0_0_2_0, k0_pay34 (acc x r0 r1 r2)⟩,
   ⟨Rect.unit ![0, 0, 1, 0] S1x1x1x64.size inb_S1x1x4x64_S1x1x1x64_0_0_1_0, k0_pay31 (acc x r0 r1 r2)⟩,
   ⟨Rect.unit ![0, 0, 0, 0] S1x1x1x64.size inb_S1x1x4x64_S1x1x1x64_0_0_0_0,
     k0_pay28 (k0_pay27 (k0_pay17 x) k0_pay18 (k0_pay19 x r0) (k0_pay20 x) (k0_pay21 x) (k0_pay22 x) (k0_pay23 x) r1 r2)⟩]

/-- The scores' block after a point that finds the table `w`. -/
def zBlk (x : Vec F S1x21x2048 .f32) (w : Vec F S3x64x256 .bf16) : Vec F S1x4x1x64x493 .f32 :=
  View.canon (zStores x (View.ld w tr0) (View.ld w tr1) (View.ld w tr2))

/-- The maxima's block after a point that finds the table `w`. -/
def sBlk (x : Vec F S1x21x2048 .f32) (w : Vec F S3x64x256 .bf16) : Vec F S1x1x4x64 .f32 :=
  View.canon (sStores x (View.ld w tr0) (View.ld w tr1) (View.ld w tr2))

/-- The three stores fill the table. -/
theorem tab_cover (p : Vec F S20x21x64 .f32) (q : Vec F S1x21 .f32) (y : S3x64x256.Idx) : ∃ s ∈ tabStores p q, y ∈ s.1.set :=
  View.cover_of_tiledL (tabStores p q) S1x64x256.size (by sl_kernel_rfl) y

/-- The four stores fill the scores' block. -/
theorem z_cover (x : Vec F S1x21x2048 .f32) (r0 r1 r2 : Vec F S1x64x256 .bf16) (y : S1x4x1x64x493.Idx) :
    ∃ s ∈ zStores x r0 r1 r2, y ∈ s.1.set :=
  View.cover_of_tiledL (zStores x r0 r1 r2) S1x1x1x64x493.size (by sl_kernel_rfl) y

/-- The four stores fill the maxima's block. -/
theorem s_cover (x : Vec F S1x21x2048 .f32) (r0 r1 r2 : Vec F S1x64x256 .bf16) (y : S1x1x4x64.Idx) :
    ∃ s ∈ sStores x r0 r1 r2, y ∈ s.1.set :=
  View.cover_of_tiledL (sStores x r0 r1 r2) S1x1x1x64.size (by sl_kernel_rfl) y

/-- A load of a whole memref through a rectangle of its own sizes reads what it holds. -/
theorem readAt_all {s : Shape} {e : EltTy} (m : Memref sig .tc .vmem s e) (h : m.IsWhole) (X : Vec F s e) {off : Fin s.rank → ℕ}
    (h0 : off = fun _ => 0) (inb : ∀ a, off a + s.size a ≤ s.size a) :
    m.view.readAt (Elt F) (Rect.unit off s.size inb).toLoadRect (h.unread X) = X := by
  rw [View.readAt_eq_ld, h.read_unread, View.ld_unit_zero h0]

/-- The zero offsets of rank 3, -/
theorem off3 : (![0, 0, 0] : Fin 3 → ℕ) = fun _ => 0 := by decide
/-- and of rank 2. -/
theorem off2 : (![0, 0] : Fin 2 → ℕ) = fun _ => 0 := by decide

set_option maxHeartbeats 400000 in
/-- The body at the first point: it stores the filters and their table, then the point's scores and maxima. -/
theorem body_first (c : Dev nD) (i : grid0.Coords) (arg1 : Memref sig .tc .vmem S20x21x64 .f32) (harg1 : arg1.IsWhole) (arg2 : Memref sig .tc .vmem S1x21 .f32) (harg2 : arg2.IsWhole)
    (arg3 : Memref sig .tc .vmem S1x21x2048 .f32) (harg3 : arg3.IsWhole) (arg4 : Memref sig .tc .vmem S20x21x64 .f32) (harg4 : arg4.IsWhole)
    (arg5 : Memref sig .tc .vmem S1x4x1x64x493 .f32) (harg5 : arg5.IsWhole) (arg6 : Memref sig .tc .vmem S1x1x4x64 .f32) (harg6 : arg6.IsWhole)
    (arg7 : Memref sig .tc .vmem S3x64x256 .bf16) (harg7 : arg7.IsWhole) (hc : k0_cond1 i = 1#1)
    (x0 : Vec F S20x21x64 .f32) (x1 : Vec F S1x21 .f32) (x2 : Vec F S1x21x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (filt x0 x1) ∗ owns (c : Thread nD τ) arg5 fullShare (zBlk x2 (tab x0 x1)) ∗ owns (c : Thread nD τ) arg6 fullShare (sBlk x2 (tab x0 x1)) ∗ owns (c : Thread nD τ) arg7 fullShare (tab x0 x1)) -∗ K ⟨⟩))
      ⊢ wp frame (wpE (defs₀ (F := F)) Variants.none c none) E (cc0__conv_kernel i arg1 harg1 arg2 harg2 arg3 harg3 arg4 harg4 arg5 harg5 arg6 harg6 arg7 harg7) K := by
  have e0 := readAt_all arg1 harg1 x0 off3 inb_S20x21x64_S20x21x64_0_0_0
  have e1 := readAt_all arg2 harg2 x1 off2 inb_S1x21_S1x21_0_0
  have e2 := readAt_all arg3 harg3 x2 off3 inb_S1x21x2048_S1x21x2048_0_0_0
  have ew : ∀ r : Rect S3x64x256, arg7.view.readCov (tabStores x0 x1) r.toLoadRect = View.ld (tab x0 x1) r := fun r =>
    View.readCov_eq_canon_ld _ _ r (tab_cover x0 x1)
  simp only [cc0__conv_kernel_eq_skeleton]; unfold cc0__conv_kernel_skel
  simp only [k0_part3_eq_skeleton, k0_part1_eq_skeleton, k0_part2_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds, %fs, -, HS⟩, Hk⟩
  obtain rfl := harg1.eq_unread hf0; obtain rfl := harg2.eq_unread hf1; obtain rfl := harg3.eq_unread hf2
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    exact View.read_writes_full arg4.view f3 inb_S20x21x64_S20x21x64_0_0_0 _ _
  isplitl [H4]
  · iexists _; isplitr; swap; · iexact H4
    ipureintro
    exact View.read_writes_eq_canon _ _ (zStores x2 (View.ld (tab x0 x1) tr0) (View.ld (tab x0 x1) tr1) (View.ld (tab x0 x1) tr2)) (z_cover _ _ _ _)
  isplitl [H5]
  · iexists _; isplitr; swap; · iexact H5
    ipureintro
    exact View.read_writes_eq_canon _ _ (sStores x2 (View.ld (tab x0 x1) tr0) (View.ld (tab x0 x1) tr1) (View.ld (tab x0 x1) tr2)) (s_cover _ _ _ _)
  iexists _; isplitr; swap; · iexact HS
  ipureintro
  exact View.read_writes_eq_canon _ _ (tabStores x0 x1) (tab_cover _ _)

set_option maxHeartbeats 400000 in
/-- The body at any other point: it finds the filters and their table and stores the point's scores and maxima. -/
theorem body_later (c : Dev nD) (i : grid0.Coords) (arg1 : Memref sig .tc .vmem S20x21x64 .f32) (harg1 : arg1.IsWhole) (arg2 : Memref sig .tc .vmem S1x21 .f32) (harg2 : arg2.IsWhole)
    (arg3 : Memref sig .tc .vmem S1x21x2048 .f32) (harg3 : arg3.IsWhole) (arg4 : Memref sig .tc .vmem S20x21x64 .f32) (harg4 : arg4.IsWhole)
    (arg5 : Memref sig .tc .vmem S1x4x1x64x493 .f32) (harg5 : arg5.IsWhole) (arg6 : Memref sig .tc .vmem S1x1x4x64 .f32) (harg6 : arg6.IsWhole)
    (arg7 : Memref sig .tc .vmem S3x64x256 .bf16) (harg7 : arg7.IsWhole) (hc : ¬k0_cond1 i = 1#1)
    (x0 : Vec F S20x21x64 .f32) (x1 : Vec F S1x21 .f32) (x2 : Vec F S1x21x2048 .f32) (x3 : Vec F S20x21x64 .f32) (w : Vec F S3x64x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare w
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (zBlk x2 w) ∗ owns (c : Thread nD τ) arg6 fullShare (sBlk x2 w) ∗ owns (c : Thread nD τ) arg7 fullShare w) -∗ K ⟨⟩))
      ⊢ wp frame (wpE (defs₀ (F := F)) Variants.none c none) E (cc0__conv_kernel i arg1 harg1 arg2 harg2 arg3 harg3 arg4 harg4 arg5 harg5 arg6 harg6 arg7 harg7) K := by
  have e0 := readAt_all arg1 harg1 x0 off3 inb_S20x21x64_S20x21x64_0_0_0
  have e1 := readAt_all arg2 harg2 x1 off2 inb_S1x21_S1x21_0_0
  have e2 := readAt_all arg3 harg3 x2 off3 inb_S1x21x2048_S1x21x2048_0_0_0
  have ew : ∀ r : Rect S3x64x256, arg7.view.readAt (Elt F) r.toLoadRect (harg7.unread w) = View.ld w r := fun r => by
    rw [View.readAt_eq_ld, harg7.read_unread]
  simp only [cc0__conv_kernel_eq_skeleton]; unfold cc0__conv_kernel_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := harg1.eq_unread hf0; obtain rfl := harg2.eq_unread hf1; obtain rfl := harg3.eq_unread hf2; obtain rfl := harg4.eq_unread hf3; obtain rfl := harg7.eq_unread hfs
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    exact View.read_writes_eq_canon _ _ (zStores x2 (View.ld w tr0) (View.ld w tr1) (View.ld w tr2)) (z_cover _ _ _ _)
  isplitl [H5]
  · iexists _; isplitr; swap; · iexact H5
    ipureintro
    exact View.read_writes_eq_canon _ _ (sStores x2 (View.ld w tr0) (View.ld w tr1) (View.ld w tr2)) (s_cover _ _ _ _)
  iexists _; isplitr; · ipureintro; exact harg7.read_unread _
  iexact HS

end Cert.Conv
end
-- ==== Proof.Conv.Region.lean ====
module

public import Idealize.ShloMosaic.Lib.Claim
public import proofs.«01_k».proof.Proof.Conv.Body

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The pipelined launch: what every window's buffer holds after each point, the body's obligation at a point, and the
    run of the whole program. -/

local notation "𝕄" => MT nD τ sig Unit (Elt F) ℕ (UR sig nD τ) ℕ

variable (m : (ℓ : Loc nD τ sig) → Buf (Elt F) ℓ) (ρ : Dev nD → PrngReg)

/-- The first grid point. -/
def pt0 : Fin cfg0.N := ⟨0, by rw [show cfg0.N = 48 from N_0]; omega⟩

/-- The filters core `c` computes at its first point. -/
def filters (c : Dev nD) : Vec F S20x21x64 .f32 := filt (iblk m c 0 pt0) (iblk m c 1 pt0)

/-- The filter table core `c` keeps in its scratch. -/
def table (c : Dev nD) : Vec F S3x64x256 .bf16 := tab (iblk m c 0 pt0) (iblk m c 1 pt0)

/-- Window 0's buffer at a point, -/
abbrev mb0 (t : Fin cfg0.N) : Memref sig .tc .vmem S20x21x64 .f32 := win0_0.stage (cfg0.slots t 0)
/-- which is a whole buffer. -/
theorem hb0 (t : Fin cfg0.N) : (mb0 t).IsWhole := hstage0_0 ((cfg0.slots t 0).cast nbuf0_0)
/-- Window 1's buffer at a point, -/
abbrev mb1 (t : Fin cfg0.N) : Memref sig .tc .vmem S1x21 .f32 := win0_1.stage (cfg0.slots t 1)
/-- which is a whole buffer. -/
theorem hb1 (t : Fin cfg0.N) : (mb1 t).IsWhole := hstage0_1 ((cfg0.slots t 1).cast nbuf0_1)
/-- Window 2's buffer at a point, -/
abbrev mb2 (t : Fin cfg0.N) : Memref sig .tc .vmem S1x21x2048 .f32 := win0_2.stage (cfg0.slots t 2)
/-- which is a whole buffer. -/
theorem hb2 (t : Fin cfg0.N) : (mb2 t).IsWhole := hstage0_2 ((cfg0.slots t 2).cast nbuf0_2)
/-- Window 3's buffer at a point, -/
abbrev mb3 (t : Fin cfg0.N) : Memref sig .tc .vmem S20x21x64 .f32 := win0_3.stage (cfg0.slots t 3)
/-- which is a whole buffer. -/
theorem hb3 (t : Fin cfg0.N) : (mb3 t).IsWhole := hstage0_3 ((cfg0.slots t 3).cast nbuf0_3)
/-- Window 4's buffer at a point, -/
abbrev mb4 (t : Fin cfg0.N) : Memref sig .tc .vmem S1x4x1x64x493 .f32 := win0_4.stage (cfg0.slots t 4)
/-- which is a whole buffer. -/
theorem hb4 (t : Fin cfg0.N) : (mb4 t).IsWhole := hstage0_4 ((cfg0.slots t 4).cast nbuf0_4)
/-- Window 5's buffer at a point, -/
abbrev mb5 (t : Fin cfg0.N) : Memref sig .tc .vmem S1x1x4x64 .f32 := win0_5.stage (cfg0.slots t 5)
/-- which is a whole buffer. -/
theorem hb5 (t : Fin cfg0.N) : (mb5 t).IsWhole := hstage0_5 ((cfg0.slots t 5).cast nbuf0_5)
/-- The scratch, whole. -/
abbrev scr : Memref sig .tc .vmem S3x64x256 .bf16 := Memref.whole cc0_scratch0

/-- The body fills the table at the first point and at no other. -/
theorem first_iff : ∀ t : Fin cfg0.N, k0_cond1 (grid0.coords t) = 1#1 ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [k0_cond1, e0]
    word_cmp
   : ∀ t : Fin grid0.N, k0_cond1 (grid0.coords t) = 1#1 ↔ t.val % 48 = 0)

/-- What a core holds besides the windows before the launch: the scratch at anything and the generator's register. -/
theorem rest_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The invariant before point `n`: at first the scratch at anything, afterwards at the filter table. -/
def carried (c : Dev nD) : (n : ℕ) → n ≤ cfg0.N → sProp 𝕄
  | 0, _ => Pipeline.ΦA spec0 c
  | _ + 1, _ => iprop(owns (c : Thread nD τ) scr fullShare (table m c) ∗ (∃ r, prngReg c r))

/-- The invariant before the first point, -/
theorem carried_zero (c : Dev nD) (n : ℕ) (h : n ≤ cfg0.N) (hz : n = 0) : carried m c n h = Pipeline.ΦA spec0 c := by
  subst hz; rfl

/-- and before any other. -/
theorem carried_pos (c : Dev nD) (n : ℕ) (h : n ≤ cfg0.N) (hz : ¬n = 0) :
    carried m c n h = iprop(owns (c : Thread nD τ) scr fullShare (table m c) ∗ (∃ r, prngReg c r)) := by
  cases n with
  | zero => exact absurd rfl hz
  | succ n => rfl

/-- The launch's data: an input's buffer keeps its block, the first result's buffer holds the filters, the other two
    what the point's slab gives with the table. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => filters m c
    | ⟨4, _⟩ => zBlk (iblk m c 2 t) (table m c)
    | ⟨5, _⟩ => sBlk (iblk m c 2 t) (table m c)
  Φ t := carried m c t.val (Nat.le_of_lt_succ t.isLt)
  q _ := fullShare
  owed _ := 0

/-- The arrays start at what the launch finds in them. -/
theorem A_eq (c : Dev nD) (w : Fin cfg0.W) : (dats m 0 c).A w = V m c (Pipeline.arrRef spec0 w) := by dsimp only [dats]

/-- The invariant at a point is the one at its number. -/
theorem Phi_castSucc (c : Dev nD) (t : Fin cfg0.N) : (dats m 0 c).Φ t.castSucc = carried m c t.val (Nat.le_of_lt t.isLt) := by
  dsimp only [dats]; exact Pipeline.Dat.Φ_castSucc (carried m c) t

/-- What window 0's buffer holds after a point. -/
theorem after_0 (c : Dev nD) (t : Fin cfg0.N) : (dats m 0 c).after 0 t = iblk m c 0 t := by dsimp only [dats]
/-- What window 1's buffer holds after a point. -/
theorem after_1 (c : Dev nD) (t : Fin cfg0.N) : (dats m 0 c).after 1 t = iblk m c 1 t := by dsimp only [dats]
/-- What window 2's buffer holds after a point. -/
theorem after_2 (c : Dev nD) (t : Fin cfg0.N) : (dats m 0 c).after 2 t = iblk m c 2 t := by dsimp only [dats]
/-- What window 3's buffer holds after a point. -/
theorem after_3 (c : Dev nD) (t : Fin cfg0.N) : (dats m 0 c).after 3 t = filters m c := by dsimp only [dats]
/-- What window 4's buffer holds after a point. -/
theorem after_4 (c : Dev nD) (t : Fin cfg0.N) : (dats m 0 c).after 4 t = zBlk (iblk m c 2 t) (table m c) := by dsimp only [dats]
/-- What window 5's buffer holds after a point. -/
theorem after_5 (c : Dev nD) (t : Fin cfg0.N) : (dats m 0 c).after 5 t = sBlk (iblk m c 2 t) (table m c) := by dsimp only [dats]
/-- Window 0's buffer holds its block when a point begins. -/
theorem before_0 (c : Dev nD) (t : Fin cfg0.N) (d) : (dats m 0 c).before 0 t d = iblk m c 0 t :=
  before0_0_of m (dats m 0 c) (A_eq m c 0) (after_0 m c) t d
/-- Window 1's buffer holds its block when a point begins. -/
theorem before_1 (c : Dev nD) (t : Fin cfg0.N) (d) : (dats m 0 c).before 1 t d = iblk m c 1 t :=
  before0_1_of m (dats m 0 c) (A_eq m c 1) (after_1 m c) t d
/-- Window 2's buffer holds its block when a point begins. -/
theorem before_2 (c : Dev nD) (t : Fin cfg0.N) (d) : (dats m 0 c).before 2 t d = iblk m c 2 t :=
  before0_2_of m (dats m 0 c) (A_eq m c 2) (after_2 m c) t d
/-- The body leaves the first result's buffer alone at every point but the first. -/
theorem idle_3 (t : Fin cfg0.N) : cfg0.idle 3 (cfg0.grid.coords t) = !decide (t.val = 0) := by
  have hN : t.val < 48 := lt_of_lt_of_eq t.isLt (show cfg0.N = 48 from N_0)
  have h := first_iff t
  show (!(k0_cond1 (grid0.coords t) == 1#1)) = _
  by_cases hz : t.val = 0
  · rw [h.mpr (by omega), hz]; rfl
  · rw [beq_eq_false_iff_ne.mpr fun e => by have := h.mp e; omega, decide_eq_false hz]

/-- It is written back at no point but the last. -/
theorem flush_3 (t : Fin cfg0.N) (h : t.val + 1 < 48) : (cfg0.win 3).flush t = false :=
  Bool.eq_false_iff.mpr fun e => by have := (flush0_3 t).mp e; omega

/-- The first result's buffer holds the filters when any point but the first begins. -/
theorem before_3_succ (c : Dev nD) : ∀ (n : ℕ) (h : n + 1 < cfg0.N) (d), (dats m 0 c).before 3 ⟨n + 1, h⟩ d = filters m c
  | n, h, d => by
    have hN : n + 1 < 48 := lt_of_lt_of_eq h (show cfg0.N = 48 from N_0)
    rw [(dats m 0 c).before_of_pos 3 ⟨n + 1, h⟩ (Nat.succ_ne_zero n) (Pipeline.Window.fetch_out _ rfl _) d]
    rw [flush_3 ⟨n + 1 - 1, _⟩ hN, if_neg Bool.false_ne_true]
    unfold Dat.left
    rw [idle_3]
    cases n with
    | zero => exact after_3 m c _
    | succ k => exact before_3_succ c k _ d

/-- The same, at a point that is not the first. -/
theorem before_3 (c : Dev nD) (t : Fin cfg0.N) (h0 : ¬t.val = 0) (d) : (dats m 0 c).before 3 t d = filters m c := by
  obtain ⟨n, hn⟩ := t
  cases n with
  | zero => exact absurd rfl h0
  | succ k => exact before_3_succ m c k hn d

/-- A buffer at the filters is what any point has to leave in the first result's. -/
theorem leaves_3 (c : Dev nD) (t : Fin cfg0.N) :
    (owns (c : Thread nD τ) (mb3 t) fullShare (filters m c) : sProp 𝕄) ⊢ (dats m 0 c).leavesExact 3 t := by
  unfold Dat.leavesExact
  rw [after_3, idle_3]
  by_cases hz : t.val = 0
  · rw [decide_eq_true hz]; exact .rfl
  · rw [decide_eq_false hz]; simp only [Bool.not_false]
    cases (cfg0.win 3).flush t
    · simp only [before_3 m c t hz]
      iintro H; iexists (filters m c); iexact H
    · exact .rfl

/-- What a point's body starts from. -/
def pre (c : Dev nD) (t : Fin cfg0.N) : sProp 𝕄 :=
  iprop((dats m 0 c).Φ t.castSucc ∗ (dats m 0 c).owesAt () t.castSucc
    ∗ (∃ d, owns (c : Thread nD τ) (mb0 t) fullShare ((dats m 0 c).before 0 t d))
    ∗ (∃ d, owns (c : Thread nD τ) (mb1 t) fullShare ((dats m 0 c).before 1 t d))
    ∗ (∃ d, owns (c : Thread nD τ) (mb2 t) fullShare ((dats m 0 c).before 2 t d))
    ∗ (∃ d, owns (c : Thread nD τ) (mb3 t) fullShare ((dats m 0 c).before 3 t d))
    ∗ (∃ d, owns (c : Thread nD τ) (mb4 t) fullShare ((dats m 0 c).before 4 t d))
    ∗ (∃ d, owns (c : Thread nD τ) (mb5 t) fullShare ((dats m 0 c).before 5 t d)))

/-- What it ends with. -/
def post (c : Dev nD) (t : Fin cfg0.N) : sProp 𝕄 :=
  iprop((dats m 0 c).Φ t.succ ∗ (dats m 0 c).owesAt () t.succ
    ∗ owns (c : Thread nD τ) (mb0 t) fullShare ((dats m 0 c).after 0 t)
    ∗ owns (c : Thread nD τ) (mb1 t) fullShare ((dats m 0 c).after 1 t)
    ∗ owns (c : Thread nD τ) (mb2 t) fullShare ((dats m 0 c).after 2 t)
    ∗ (dats m 0 c).leavesExact 3 t
    ∗ owns (c : Thread nD τ) (mb4 t) fullShare ((dats m 0 c).after 4 t)
    ∗ owns (c : Thread nD τ) (mb5 t) fullShare ((dats m 0 c).after 5 t))

set_option maxHeartbeats 1600000 in
/-- The body's triple at a point, by whether it is the first. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl,
    after_0, after_1, after_2, after_4, after_5]
  rw [show (dats m 0 c).Φ t.succ = carried m c (t.val + 1) t.isLt from rfl, carried_pos m c _ _ (Nat.succ_ne_zero _)]
  have hN : t.val < 48 := lt_of_lt_of_eq t.isLt (show cfg0.N = 48 from N_0)
  rw [Phi_castSucc m c t]
  by_cases hz : t.val = 0
  · have hc : k0_cond1 (grid0.coords t) = 1#1 := (first_iff t).mpr (by omega)
    obtain rfl : t = pt0 := Fin.ext hz
    rw [carried_zero m c pt0.val _ hz, rest_eq]
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords pt0) _ _ _ _ _ _ _ _ _ _ _ _ _ _ hc (iblk m c 0 pt0) (iblk m c 1 pt0) (iblk m c 2 pt0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iapply (leaves_3 m c pt0); iexact H3
    isplitl [H4]; · iexact H4
    iexact H5
  · have hc : ¬k0_cond1 (grid0.coords t) = 1#1 := fun h => by have := (first_iff t).mp h; omega
    simp only [before_3 m c t hz]
    rw [carried_pos m c _ _ hz]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ hc (iblk m c 0 t) (iblk m c 1 t) (iblk m c 2 t) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iapply (leaves_3 m c t); iexact H3
    isplitl [H4]; · iexact H4
    iexact H5

/-- The launch's body at a point is the kernel's. -/
theorem body_row (t : Fin cfg0.N) : defs₀ (F := F) .tc cfg0.body (cfg0.bodyArgs t (cfg0.slots t)) = bodyAt0 t := by
  unfold defs₀; rw [Defs.onTc_tc]

/-- The obligation the launch asks of the body. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-- The launch starts in the invariant, -/
theorem starts (c : Dev nD) : Pipeline.ΦA spec0 c ⊢ (dats m 0 c).Φ 0 := by
  rw [show (dats m 0 c).Φ 0 = carried m c 0 (Nat.zero_le _) from rfl, carried_zero m c _ _ rfl]
  try exact .rfl

/-- and gives back what it took. -/
theorem ends (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 48 := N_0; omega), rest_eq]
  iintro ⟨HS, Hg⟩
  isplitl [HS]
  · iexists _; iexact HS
  iexact Hg

set_option maxHeartbeats 800000 in
set_option backward.isDefEq.respectTransparency.types false in
/-- Every run ends, the arrays at what the points wrote back, every other buffer at what the host lines around the
    launch leave, and no semaphore up. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := starts m) (hout := ends m)

/-- Every run ends with the arguments as launched and no semaphore up. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Conv
end
-- ==== Proof.Conv.Same.lean ====
module

public import proofs.«01_k».proof.Defs
public import proofs.«01_k».proof.Proof.Gen.Kernel
public import proofs.«01_k».proof.Proof.Conv.Region

@[expose] public section

set_option maxRecDepth 16384

noncomputable section

namespace Cert.Conv

open Idealize.ShloMosaic

/-! The kernel and its idealization are one text: no operation was rewritten. So what a run of the one leaves at any
    float values, a run of the other leaves. -/

variable {F : FTy → Type} [FloatOps F]

/-- The two kernels' body tables are one. -/
theorem bodies_same : Cert.Kernel.defs₀ (F := F) = Cert.KernelIdeal.defs₀ (F := F) := by
  unfold Cert.Kernel.defs₀ Cert.KernelIdeal.defs₀
  congr 1
  funext l x
  obtain ⟨n, h⟩ := l
  cases n with
  | zero => obtain ⟨t, s⟩ := x; rfl
  | succ n => exact absurd h (Nat.not_lt.2 (Nat.le_add_left _ _))

/-- The two programs' tables are one. -/
theorem tables_same : Cert.Kernel.defs (F := F) = Cert.KernelIdeal.defs (F := F) := by
  unfold Cert.Kernel.defs Cert.KernelIdeal.defs
  congr 1
  exact bodies_same

/-- Every run of the kernel ends with the arguments as launched and no semaphore up. -/
theorem kernel_frame : Cert.quiescent_Kernel := fun m g _ => by
  have h := unchanged (F := Bits) m g
  rw [← tables_same] at h
  exact h

end Cert.Conv
end
-- ==== Proof.Conv.Taps.lean ====
module

public import Idealize.ShloMosaic.Lib.Pointwise
public import proofs.«01_k».proof.Proof.Conv.Body

@[expose] public section

set_option maxRecDepth 16384

noncomputable section

namespace Cert.Conv

open Cert.KernelIdeal Cert.KernelIdeal.Gen
open Idealize.ShloMosaic

/-! One point's accumulator, read over the extended reals: at unit `u` and lane `l` it is the sum over the 20 filters of
    filter `k` applied at the lane `k` places further on. -/

/-- Filter `k` of `R`, transposed and padded with zeros to 32 columns. -/
def col (R : FVec Ideal S20x21x64 .bf16) (k : ℕ) (hk : S20x21x64.Slices ![k, 0, 0] S1x21x64) : FVec Ideal S64x32 .bf16 :=
  concatenate S64x32 1 [⟨S64x21, transpose S64x21 [1, 0] (shapeCast S21x64 (extractStridedSlice S1x21x64 ![k, 0, 0] R hk) shapeCasts_S1x21x64_S21x64) transposes_S21x64_p1_0_S64x21⟩, ⟨S64x11, k0_pay4 (F := Ideal)⟩] concatenates_S64x21_S64x11_S64x32_d1

/-- The slab `v` rotated by `s` lanes and padded with zeros to 32 rows. -/
def slab (v : FVec Ideal S21x2048 .bf16) (s : BitVec 32) : FVec Ideal S32x2048 .bf16 :=
  concatenate S32x2048 0 [⟨S21x2048, dynamicRotate 1 s none v rotates_S21x2048_d1⟩, ⟨S11x2048, k0_pay18 (F := Ideal)⟩] concatenates_S21x2048_S11x2048_S32x2048_d0

/-- The slab `v` itself, padded with zeros to 32 rows. -/
def slab₀ (v : FVec Ideal S21x2048 .bf16) : FVec Ideal S32x2048 .bf16 :=
  concatenate S32x2048 0 [⟨S21x2048, v⟩, ⟨S11x2048, k0_pay18 (F := Ideal)⟩] concatenates_S21x2048_S11x2048_S32x2048_d0

/-- A padded filter at an entry. -/
theorem col_at (R : FVec Ideal S20x21x64 .bf16) (k : ℕ) (hk : S20x21x64.Slices ![k, 0, 0] S1x21x64) (hk' : k < 20) (u : Fin 64) (b : Fin 32) :
    col R k hk (ix2 u b) = if h : b.val < 21 then R (ix3 ⟨k, hk'⟩ ⟨b.val, h⟩ u) else 0 := by
  pointwise [col, k0_pay4]

/-- A rotated padded slab at an entry: rotating by `2048 - k` lanes reads `k` lanes further on. -/
theorem slab_at (v : FVec Ideal S21x2048 .bf16) (s : BitVec 32) (k : ℕ) (hs : s.toNat + k = 2048) (hk : 0 < k) (b : Fin 32) (l : Fin 2048) :
    slab v s (ix2 b l) = if h : b.val < 21 then v (ix2 ⟨b.val, h⟩ ⟨(l.val + k) % 2048, Nat.mod_lt _ (by decide)⟩) else 0 := by
  have e : (l.val + 2048 - s.toNat % 2048) % 2048 = (l.val + k) % 2048 := by
    rw [Nat.mod_eq_of_lt (by omega : s.toNat < 2048)]; congr 1; omega
  pointwise [slab, k0_pay18]
  split
  · exact congrArg (fun z => v (ix2 _ z)) (Fin.ext e)
  · rfl

/-- The unrotated padded slab at an entry. -/
theorem slab₀_at (v : FVec Ideal S21x2048 .bf16) (b : Fin 32) (l : Fin 2048) :
    slab₀ v (ix2 b l) = if h : b.val < 21 then v (ix2 ⟨b.val, h⟩ ⟨(l.val + 0) % 2048, Nat.mod_lt _ (by decide)⟩) else 0 := by
  have e : (l.val + 0) % 2048 = l.val := Nat.mod_eq_of_lt l.isLt
  pointwise [slab₀, k0_pay18]
  split
  · exact congrArg (fun z => v (ix2 _ z)) (Fin.ext e.symm)
  · rfl

/-- Filter `k` applied at lane `l + k`, for unit `u`. -/
def tap (R : FVec Ideal S20x21x64 .bf16) (v : FVec Ideal S21x2048 .bf16) (u : Fin 64) (l : Fin 2048) (k : Fin 20) : EReal :=
  ∑ a : Fin 21, R (ix3 k a u) * v (ix2 a ⟨(l.val + k.val) % 2048, Nat.mod_lt _ (by decide)⟩)

/-- Eleven rows of zeros add nothing to a sum of products. -/
theorem sum_pad (f g : Fin 21 → EReal) :
    (∑ b : Fin 32, (if h : b.val < 21 then f ⟨b.val, h⟩ else 0) * (if h : b.val < 21 then g ⟨b.val, h⟩ else 0)) = ∑ a : Fin 21, f a * g a := by
  rw [Fin.sum_univ_two_halves 21 11 rfl]
  simp

/-- One padded filter times one rotated padded slab. -/
theorem tap_of (R : FVec Ideal S20x21x64 .bf16) (v : FVec Ideal S21x2048 .bf16) (k : ℕ) (hk : S20x21x64.Slices ![k, 0, 0] S1x21x64)
    (hk' : k < 20) (s : BitVec 32) (hs : s.toNat + k = 2048) (h0 : 0 < k) (u : Fin 64) (l : Fin 2048) :
    (∑ b : Fin 32, col R k hk (ix2 u b) * slab v s (ix2 b l)) = tap R v u l ⟨k, hk'⟩ := by
  simp only [col_at R k hk hk', slab_at v s k hs h0]
  exact sum_pad (fun a => R (ix3 ⟨k, hk'⟩ a u)) (fun a => v (ix2 a ⟨(l.val + k) % 2048, Nat.mod_lt _ (by decide)⟩))

/-- The first padded filter times the unrotated padded slab. -/
theorem tap_of₀ (R : FVec Ideal S20x21x64 .bf16) (v : FVec Ideal S21x2048 .bf16) (hk : S20x21x64.Slices ![0, 0, 0] S1x21x64)
    (u : Fin 64) (l : Fin 2048) :
    (∑ b : Fin 32, col R 0 hk (ix2 u b) * slab₀ v (ix2 b l)) = tap R v u l 0 := by
  simp only [col_at R 0 hk (by decide), slab₀_at]
  exact sum_pad (fun a => R (ix3 0 a u)) (fun a => v (ix2 a ⟨(l.val + 0) % 2048, Nat.mod_lt _ (by decide)⟩))

/-- A place in a later run is in no earlier one. -/
theorem not_lt_of_add (x : ℕ) : ¬x + 32 < 32 ∧ ¬x + 64 < 32 ∧ ¬x + 96 < 32 ∧ ¬x + 128 < 32 ∧ ¬x + 160 < 32 ∧ ¬x + 192 < 32 ∧ ¬x + 224 < 32 := by
  omega

/-- A row of eight blocks of 32 columns, -/
def wide (L0 L1 L2 L3 L4 L5 L6 L7 : FVec Ideal S64x32 .bf16) : FVec Ideal S1x64x256 .bf16 :=
  shapeCast S1x64x256 (concatenate S64x256 1 [⟨S64x32, L0⟩, ⟨S64x32, L1⟩, ⟨S64x32, L2⟩, ⟨S64x32, L3⟩, ⟨S64x32, L4⟩, ⟨S64x32, L5⟩, ⟨S64x32, L6⟩, ⟨S64x32, L7⟩] concatenates_S64x32_S64x32_S64x32_S64x32_S64x32_S64x32_S64x32_S64x32_S64x256_d1) shapeCasts_S64x256_S1x64x256

/-- and a pile of eight blocks of 32 rows. -/
def tall (B0 B1 B2 B3 B4 B5 B6 B7 : FVec Ideal S32x2048 .bf16) : FVec Ideal S256x2048 .bf16 :=
  concatenate S256x2048 0 [⟨S32x2048, B0⟩, ⟨S32x2048, B1⟩, ⟨S32x2048, B2⟩, ⟨S32x2048, B3⟩, ⟨S32x2048, B4⟩, ⟨S32x2048, B5⟩, ⟨S32x2048, B6⟩, ⟨S32x2048, B7⟩] concatenates_S32x2048_S32x2048_S32x2048_S32x2048_S32x2048_S32x2048_S32x2048_S32x2048_S256x2048_d0

/-- A sum of 256 terms in eight runs of 32. -/
theorem sum_runs (f : Fin 256 → EReal) :
    ∑ x, f x = ∑ i : Fin 8, ∑ b : Fin 32, f ⟨b.val + 32 * i.val, by omega⟩ := by
  exact (Equiv.sum_comp (finProdFinEquiv (m := 8) (n := 32)) f).symm.trans (Fintype.sum_prod_type _)

/-- A sum of 128 terms in four runs of 32. -/
theorem sum_runs' (f : Fin 128 → EReal) :
    ∑ x, f x = ∑ i : Fin 4, ∑ b : Fin 32, f ⟨b.val + 32 * i.val, by omega⟩ := by
  exact (Equiv.sum_comp (finProdFinEquiv (m := 4) (n := 32)) f).symm.trans (Fintype.sum_prod_type _)

set_option maxHeartbeats 2000000 in
/-- The product of a wide row with a tall pile is the sum of the eight blocks' products. -/
theorem dot_wide (L0 L1 L2 L3 L4 L5 L6 L7 : FVec Ideal S64x32 .bf16) (B0 B1 B2 B3 B4 B5 B6 B7 : FVec Ideal S32x2048 .bf16) (u : Fin 64) (l : Fin 2048) :
    matmul dot_S64x256_S256x2048_S64x2048_1_0_0_1_n_n none (shapeCast S64x256 (wide L0 L1 L2 L3 L4 L5 L6 L7) shapeCasts_S1x64x256_S64x256)
      (tall B0 B1 B2 B3 B4 B5 B6 B7) (constant S64x2048 .f32 0x00000000#32) (ix2 u l)
    = (∑ b, L0 (ix2 u b) * B0 (ix2 b l)) + (∑ b, L1 (ix2 u b) * B1 (ix2 b l)) + (∑ b, L2 (ix2 u b) * B2 (ix2 b l)) + (∑ b, L3 (ix2 u b) * B3 (ix2 b l))
      + (∑ b, L4 (ix2 u b) * B4 (ix2 b l)) + (∑ b, L5 (ix2 u b) * B5 (ix2 b l)) + (∑ b, L6 (ix2 u b) * B6 (ix2 b l)) + (∑ b, L7 (ix2 u b) * B7 (ix2 b l)) := by
  pointwise [wide, tall]
  rw [sum_runs, Fin.sum_univ_eight]
  simp [not_lt_of_add]

/-- The last row: four blocks of 32 columns and 128 columns of zeros. -/
def wide' (L0 L1 L2 L3 : FVec Ideal S64x32 .bf16) : FVec Ideal S1x64x256 .bf16 :=
  shapeCast S1x64x256 (concatenate S64x256 1 [⟨S64x32, L0⟩, ⟨S64x32, L1⟩, ⟨S64x32, L2⟩, ⟨S64x32, L3⟩, ⟨S64x128, broadcast S64x128 (Scalar.ofBits .bf16 0x0000#16 : Ideal .bf16)⟩] concatenates_S64x32_S64x32_S64x32_S64x32_S64x128_S64x256_d1) shapeCasts_S64x256_S1x64x256

/-- A pile of four blocks of 32 rows. -/
def tall' (B0 B1 B2 B3 : FVec Ideal S32x2048 .bf16) : FVec Ideal S128x2048 .bf16 :=
  concatenate S128x2048 0 [⟨S32x2048, B0⟩, ⟨S32x2048, B1⟩, ⟨S32x2048, B2⟩, ⟨S32x2048, B3⟩] concatenates_S32x2048_S32x2048_S32x2048_S32x2048_S128x2048_d0

set_option maxHeartbeats 2000000 in
/-- The product of the last row's first half with a pile of four is the sum of the four blocks' products. -/
theorem dot_wide' (L0 L1 L2 L3 : FVec Ideal S64x32 .bf16) (B0 B1 B2 B3 : FVec Ideal S32x2048 .bf16) (u : Fin 64) (l : Fin 2048) :
    matmul dot_S64x128_S128x2048_S64x2048_1_0_0_1_n_n none
      (extractStridedSlice S64x128 ![0, 0] (shapeCast S64x256 (wide' L0 L1 L2 L3) shapeCasts_S1x64x256_S64x256) slices_S64x256_o0_0_S64x128)
      (tall' B0 B1 B2 B3) (constant S64x2048 .f32 0x00000000#32) (ix2 u l)
    = (∑ b, L0 (ix2 u b) * B0 (ix2 b l)) + (∑ b, L1 (ix2 u b) * B1 (ix2 b l)) + (∑ b, L2 (ix2 u b) * B2 (ix2 b l)) + (∑ b, L3 (ix2 u b) * B3 (ix2 b l)) := by
  pointwise [wide', tall']
  rw [sum_runs', Fin.sum_univ_four]
  simp [not_lt_of_add]

/-- The table's rows are wide rows of padded filters. -/
theorem row0_eq (p : Vec Ideal S20x21x64 .f32) (q : Vec Ideal S1x21 .f32) :
    row0 p q = wide (col (k0_pay3 p q) 0 slices_S20x21x64_o0_0_0_S1x21x64) (col (k0_pay3 p q) 1 slices_S20x21x64_o1_0_0_S1x21x64)
      (col (k0_pay3 p q) 2 slices_S20x21x64_o2_0_0_S1x21x64) (col (k0_pay3 p q) 3 slices_S20x21x64_o3_0_0_S1x21x64)
      (col (k0_pay3 p q) 4 slices_S20x21x64_o4_0_0_S1x21x64) (col (k0_pay3 p q) 5 slices_S20x21x64_o5_0_0_S1x21x64)
      (col (k0_pay3 p q) 6 slices_S20x21x64_o6_0_0_S1x21x64) (col (k0_pay3 p q) 7 slices_S20x21x64_o7_0_0_S1x21x64) := rfl

/-- The second row is made the same way, from filters 8 to 15, -/
theorem row1_eq (p : Vec Ideal S20x21x64 .f32) (q : Vec Ideal S1x21 .f32) :
    row1 p q = wide (col (k0_pay3 p q) 8 slices_S20x21x64_o8_0_0_S1x21x64) (col (k0_pay3 p q) 9 slices_S20x21x64_o9_0_0_S1x21x64)
      (col (k0_pay3 p q) 10 slices_S20x21x64_o10_0_0_S1x21x64) (col (k0_pay3 p q) 11 slices_S20x21x64_o11_0_0_S1x21x64)
      (col (k0_pay3 p q) 12 slices_S20x21x64_o12_0_0_S1x21x64) (col (k0_pay3 p q) 13 slices_S20x21x64_o13_0_0_S1x21x64)
      (col (k0_pay3 p q) 14 slices_S20x21x64_o14_0_0_S1x21x64) (col (k0_pay3 p q) 15 slices_S20x21x64_o15_0_0_S1x21x64) := rfl

/-- and the third from the last four. -/
theorem row2_eq (p : Vec Ideal S20x21x64 .f32) (q : Vec Ideal S1x21 .f32) :
    row2 p q = wide' (col (k0_pay3 p q) 16 slices_S20x21x64_o16_0_0_S1x21x64) (col (k0_pay3 p q) 17 slices_S20x21x64_o17_0_0_S1x21x64)
      (col (k0_pay3 p q) 18 slices_S20x21x64_o18_0_0_S1x21x64) (col (k0_pay3 p q) 19 slices_S20x21x64_o19_0_0_S1x21x64) := rfl

/-- The first eight filters' share of the accumulator, -/
theorem part0_eq (x : Vec Ideal S1x21x2048 .f32) (r : FVec Ideal S1x64x256 .bf16) :
    k0_pay19 x r = addf (broadcast S64x2048 (Scalar.ofBits .f32 0x00000000#32 : Ideal .f32))
      (matmul dot_S64x256_S256x2048_S64x2048_1_0_0_1_n_n none (shapeCast S64x256 r shapeCasts_S1x64x256_S64x256)
        (tall (slab₀ (k0_pay17 x)) (slab (k0_pay17 x) 2047#32) (slab (k0_pay17 x) 2046#32) (slab (k0_pay17 x) 2045#32) (slab (k0_pay17 x) 2044#32)
          (slab (k0_pay17 x) 2043#32) (slab (k0_pay17 x) 2042#32) (slab (k0_pay17 x) 2041#32)) (constant S64x2048 .f32 0x00000000#32)) := rfl

/-- and the whole of it. -/
theorem acc_eq (x : Vec Ideal S1x21x2048 .f32) (r0 r1 r2 : FVec Ideal S1x64x256 .bf16) :
    acc x r0 r1 r2 = addf (addf (k0_pay19 x r0)
      (matmul dot_S64x256_S256x2048_S64x2048_1_0_0_1_n_n none (shapeCast S64x256 r1 shapeCasts_S1x64x256_S64x256)
        (tall (slab (k0_pay17 x) 2040#32) (slab (k0_pay17 x) 2039#32) (slab (k0_pay17 x) 2038#32) (slab (k0_pay17 x) 2037#32) (slab (k0_pay17 x) 2036#32)
          (slab (k0_pay17 x) 2035#32) (slab (k0_pay17 x) 2034#32) (slab (k0_pay17 x) 2033#32)) (constant S64x2048 .f32 0x00000000#32)))
      (matmul dot_S64x128_S128x2048_S64x2048_1_0_0_1_n_n none
        (extractStridedSlice S64x128 ![0, 0] (shapeCast S64x256 r2 shapeCasts_S1x64x256_S64x256) slices_S64x256_o0_0_S64x128)
        (tall' (slab (k0_pay17 x) 2032#32) (slab (k0_pay17 x) 2031#32) (slab (k0_pay17 x) 2030#32) (slab (k0_pay17 x) 2029#32))
        (constant S64x2048 .f32 0x00000000#32)) := rfl

set_option maxHeartbeats 2000000 in
/-- The accumulator at an entry: the 20 filters' taps, added. -/
theorem acc_at (p : Vec Ideal S20x21x64 .f32) (q : Vec Ideal S1x21 .f32) (x : Vec Ideal S1x21x2048 .f32) (u : Fin 64) (l : Fin 2048) :
    acc x (row0 p q) (row1 p q) (row2 p q) (ix2 u l) = ∑ k : Fin 20, tap (k0_pay3 p q) (k0_pay17 x) u l k := by
  rw [acc_eq, part0_eq, row0_eq, row1_eq, row2_eq]
  simp only [ValueIdx.addf_apply, dot_wide, dot_wide', tap_of₀]
  rw [tap_of _ _ 1 _ (by decide) _ rfl (by decide), tap_of _ _ 2 _ (by decide) _ rfl (by decide), tap_of _ _ 3 _ (by decide) _ rfl (by decide),
    tap_of _ _ 4 _ (by decide) _ rfl (by decide), tap_of _ _ 5 _ (by decide) _ rfl (by decide), tap_of _ _ 6 _ (by decide) _ rfl (by decide),
    tap_of _ _ 7 _ (by decide) _ rfl (by decide), tap_of _ _ 8 _ (by decide) _ rfl (by decide), tap_of _ _ 9 _ (by decide) _ rfl (by decide),
    tap_of _ _ 10 _ (by decide) _ rfl (by decide), tap_of _ _ 11 _ (by decide) _ rfl (by decide), tap_of _ _ 12 _ (by decide) _ rfl (by decide),
    tap_of _ _ 13 _ (by decide) _ rfl (by decide), tap_of _ _ 14 _ (by decide) _ rfl (by decide), tap_of _ _ 15 _ (by decide) _ rfl (by decide),
    tap_of _ _ 16 _ (by decide) _ rfl (by decide), tap_of _ _ 17 _ (by decide) _ rfl (by decide), tap_of _ _ 18 _ (by decide) _ rfl (by decide),
    tap_of _ _ 19 _ (by decide) _ rfl (by decide)]
  have hz : broadcast S64x2048 (FloatOps.ofBits FTy.f32 0#32 : Ideal .f32) (ix2 u l) = (0 : EReal) := Ideal.ofBits_zero_f32
  rw [hz]
  simp only [Fin.sum_univ_succ, Fin.sum_univ_zero, zero_add, add_zero, add_assoc]
  rfl

end Cert.Conv
end
-- ==== Proof.Conv.Block.lean ====
module

public import Idealize.ShloMosaic.Lib.Pipeline.ValueKit
public import proofs.«01_k».proof.Proof.Conv.Taps

@[expose] public section

set_option maxRecDepth 16384

noncomputable section

namespace Cert.Conv

open Cert.KernelIdeal Cert.KernelIdeal.Gen
open Idealize.ShloMosaic

/-! What one grid point's two blocks hold, entry by entry, read over the extended reals. -/

/-- Row 2 of the table, -/
theorem ld_tab2 (p : Vec Ideal S20x21x64 .f32) (q : Vec Ideal S1x21 .f32) : View.ld (tab p q) tr2 = row2 p q :=
  funext fun x => View.canon_cons_emb _ _ _ x

/-- An entry whose row comes before the row of the last store is not that store's. -/
theorem not_stored (n : ℕ) (inb : ∀ a, (![n, 0, 0] : Fin 3 → ℕ) a + S1x64x256.size a ≤ S3x64x256.size a) (v : Vec Ideal S1x64x256 .bf16)
    (L : List (View.Piece (Elt Ideal) S3x64x256 .bf16)) (y : S3x64x256.Idx) (h : (y 0).val < n) :
    View.canon (⟨Rect.unit (s := S3x64x256) ![n, 0, 0] S1x64x256.size inb, v⟩ :: L) y = View.canon L y :=
  View.canon_cons_of_not_mem _ _ fun hy => absurd (((Rect.mem_set_unit (inb := inb)).mp hy 0).1) (Nat.not_le.mpr h)

/-- row 1, -/
theorem ld_tab1 (p : Vec Ideal S20x21x64 .f32) (q : Vec Ideal S1x21 .f32) : View.ld (tab p q) tr1 = row1 p q :=
  funext fun x => by
    have hx : (x 0).val < 1 := (x 0).isLt
    have e : ((tr1.emb x) 0).val = 1 + (x 0).val := Rect.idx_unit_val _ _ _ x 0
    exact (not_stored 2 _ _ _ (tr1.emb x) (by omega)).trans (View.canon_cons_emb _ _ _ x)

/-- and row 0. -/
theorem ld_tab0 (p : Vec Ideal S20x21x64 .f32) (q : Vec Ideal S1x21 .f32) : View.ld (tab p q) tr0 = row0 p q :=
  funext fun x => by
    have hx : (x 0).val < 1 := (x 0).isLt
    have e : ((tr0.emb x) 0).val = 0 + (x 0).val := Rect.idx_unit_val _ _ _ x 0
    exact (not_stored 2 _ _ _ (tr0.emb x) (by omega)).trans ((not_stored 1 _ _ _ (tr0.emb x) (by omega)).trans (View.canon_cons_emb _ _ _ x))

/-- Unit `u` of the accumulator `A` at place `p` of sequence `n`. -/
def place (A : FVec Ideal S64x2048 .f32) (u : Fin 64) (n : Fin 4) (p : Fin 493) : EReal :=
  A (ix2 u ⟨512 * n.val + p.val, by omega⟩)

/-- Where two places' coordinates agree, so do the entries. -/
theorem place_of (A : FVec Ideal S64x2048 .f32) (u u' : Fin 64) (n : Fin 4) (p : Fin 493) (l : Fin 2048) (hu : u'.val = u.val)
    (hl : l.val = 512 * n.val + p.val) : A (ix2 u' l) = place A u n p := by
  obtain rfl := Fin.ext hu
  exact congrArg (fun z => A (ix2 _ z)) (Fin.ext hl)

/-- A place named by equal coordinates. -/
theorem place_congr (A : FVec Ideal S64x2048 .f32) {u u' : Fin 64} {n n' : Fin 4} {p p' : Fin 493} (hu : u'.val = u.val) (hn : n'.val = n.val)
    (hp : p'.val = p.val) : place A u n p = place A u' n' p' := by
  obtain rfl := Fin.ext hu; obtain rfl := Fin.ext hn; obtain rfl := Fin.ext hp; rfl

/-- The stored slices are slices of the accumulator. -/
theorem z_piece0 (A : FVec Ideal S64x2048 .f32) (x : S1x1x1x64x493.Idx) :
    shapeCast S1x1x1x64x493 (extractStridedSlice S64x493 ![0, 0] A slices_S64x2048_o0_0_S64x493) shapeCasts_S64x493_S1x1x1x64x493 x = place A (x 3) 0 (x 4) := by
  pointwise
  exact place_of A _ _ _ _ _ rfl (by simp)
/-- Likewise the second slice, -/
theorem z_piece1 (A : FVec Ideal S64x2048 .f32) (x : S1x1x1x64x493.Idx) : k0_pay30 A x = place A (x 3) 1 (x 4) := by
  pointwise [k0_pay30, k0_pay29]
  exact place_of A _ _ _ _ _ rfl (by simp)
/-- the third -/
theorem z_piece2 (A : FVec Ideal S64x2048 .f32) (x : S1x1x1x64x493.Idx) : k0_pay33 A x = place A (x 3) 2 (x 4) := by
  pointwise [k0_pay33, k0_pay32]
  exact place_of A _ _ _ _ _ rfl (by simp)
/-- and the fourth. -/
theorem z_piece3 (A : FVec Ideal S64x2048 .f32) (x : S1x1x1x64x493.Idx) : k0_pay36 A x = place A (x 3) 3 (x 4) := by
  pointwise [k0_pay36, k0_pay35]
  exact place_of A _ _ _ _ _ rfl (by simp)

/-- The greatest of a unit's scores over a sequence's places. -/
def top (f : Fin 493 → EReal) : EReal := Finset.univ.fold max (Ideal.ofBits .f32 0xFF800000#32) f

/-- The stored maxima are those of the slices. -/
theorem s_piece0 (A : FVec Ideal S64x2048 .f32) (x : S1x1x1x64.Idx) :
    k0_pay28 (multiReduction .maximumf [1] S64 (extractStridedSlice S64x493 ![0, 0] A slices_S64x2048_o0_0_S64x493) 0xFF800000#32 reduces_S64x493_S64 (.inl rfl) rfl) x
      = top (place A (x 3) 0) := by
  pointwise [k0_pay28]
  refine congrArg (Finset.fold max _ · _) (funext fun p => ?_)
  exact place_of A _ _ _ _ _ rfl (by simp)
/-- Likewise over the second slice, -/
theorem s_piece1 (A : FVec Ideal S64x2048 .f32) (x : S1x1x1x64.Idx) : k0_pay31 A x = top (place A (x 3) 1) := by
  pointwise [k0_pay31, k0_pay29]
  refine congrArg (Finset.fold max _ · _) (funext fun p => ?_)
  exact place_of A _ _ _ _ _ rfl (by simp)
/-- the third -/
theorem s_piece2 (A : FVec Ideal S64x2048 .f32) (x : S1x1x1x64.Idx) : k0_pay34 A x = top (place A (x 3) 2) := by
  pointwise [k0_pay34, k0_pay32]
  refine congrArg (Finset.fold max _ · _) (funext fun p => ?_)
  exact place_of A _ _ _ _ _ rfl (by simp)
/-- and the fourth. -/
theorem s_piece3 (A : FVec Ideal S64x2048 .f32) (x : S1x1x1x64.Idx) : k0_pay1 (k0_pay37 A) x = top (place A (x 3) 3) := by
  pointwise [k0_pay1, k0_pay37, k0_pay35]
  refine congrArg (Finset.fold max _ · _) (funext fun p => ?_)
  exact place_of A _ _ _ _ _ rfl (by simp)

/-- The first slice's store reads the same accumulator. -/
theorem z_first (x : Vec Ideal S1x21x2048 .f32) (r0 r1 r2 : Vec Ideal S1x64x256 .bf16) :
    k0_pay26 (k0_pay17 x) k0_pay18 (k0_pay19 x r0) (k0_pay20 x) (k0_pay21 x) (k0_pay22 x) (k0_pay23 x) r1 r2
      = shapeCast S1x1x1x64x493 (extractStridedSlice S64x493 ![0, 0] (acc x r0 r1 r2) slices_S64x2048_o0_0_S64x493) shapeCasts_S64x493_S1x1x1x64x493 := rfl
/-- So do its maxima. -/
theorem s_first (x : Vec Ideal S1x21x2048 .f32) (r0 r1 r2 : Vec Ideal S1x64x256 .bf16) :
    k0_pay27 (k0_pay17 x) k0_pay18 (k0_pay19 x r0) (k0_pay20 x) (k0_pay21 x) (k0_pay22 x) (k0_pay23 x) r1 r2
      = multiReduction .maximumf [1] S64 (extractStridedSlice S64x493 ![0, 0] (acc x r0 r1 r2) slices_S64x2048_o0_0_S64x493) 0xFF800000#32 reduces_S64x493_S64 (.inl rfl) rfl := rfl

/-- The scores' block at an entry. -/
theorem zBlk_at (x : Vec Ideal S1x21x2048 .f32) (w : Vec Ideal S3x64x256 .bf16) (y : S1x4x1x64x493.Idx) :
    zBlk x w y = place (acc x (View.ld w tr0) (View.ld w tr1) (View.ld w tr2)) (y 3) (y 1) (y 4) := by
  unfold zBlk zStores
  canon_tiles a h using z_cover x (View.ld w tr0) (View.ld w tr1) (View.ld w tr2) y
  · exact (z_piece3 _ a).trans (place_congr _ h3 (by rw [h1]; show 3 + _ = 3; omega) h4)
  · exact (z_piece2 _ a).trans (place_congr _ h3 (by rw [h1]; show 2 + _ = 2; omega) h4)
  · exact (z_piece1 _ a).trans (place_congr _ h3 (by rw [h1]; show 1 + _ = 1; omega) h4)
  · rw [z_first]
    exact (z_piece0 _ a).trans (place_congr _ h3 (by rw [h1]; show _ = 0; omega) h4)

/-- The maxima's block at an entry. -/
theorem sBlk_at (x : Vec Ideal S1x21x2048 .f32) (w : Vec Ideal S3x64x256 .bf16) (y : S1x1x4x64.Idx) :
    sBlk x w y = top (place (acc x (View.ld w tr0) (View.ld w tr1) (View.ld w tr2)) (y 3) (y 2)) := by
  unfold sBlk sStores
  canon_tiles a h using s_cover x (View.ld w tr0) (View.ld w tr1) (View.ld w tr2) y
  · exact (s_piece3 _ a).trans (congrArg top (funext fun p => place_congr _ h3 (by rw [h2]; show 3 + _ = 3; omega) rfl))
  · exact (s_piece2 _ a).trans (congrArg top (funext fun p => place_congr _ h3 (by rw [h2]; show 2 + _ = 2; omega) rfl))
  · exact (s_piece1 _ a).trans (congrArg top (funext fun p => place_congr _ h3 (by rw [h2]; show 1 + _ = 1; omega) rfl))
  · rw [s_first]
    exact (s_piece0 _ a).trans (congrArg top (funext fun p => place_congr _ h3 (by rw [h2]; show _ = 0; omega) rfl))

end Cert.Conv
end
-- ==== Proof.Conv.Inputs.lean ====
module

public import Idealize.ShloMosaic.Lib.Pipeline.ValueKit
public import Idealize.ShloMosaic.Lib.Pointwise
public import proofs.«01_k».proof.Proof.Conv.Region

@[expose] public section

set_option maxRecDepth 16384

noncomputable section

namespace Cert.Conv

open Cert.KernelIdeal Cert.KernelIdeal.Gen
open Idealize.ShloMosaic

open Idealize.ShloMosaic.TcCoe

variable (m : (ℓ : Loc nD τ sig) → Buf (Elt Ideal) ℓ)

/-! What the launch's inputs hold at a grid point, from the program's arguments. -/

/-- Window 2's block at point `t` is slab `t`. -/
theorem idx2 : ∀ t : Fin cfg0.N, win0_2.index t = ![t.val, 0, 0] := by decide +kernel
/-- Window 4's block at point `t` is that of type `t / 6` and family `t % 6`. -/
theorem idx4 : ∀ t : Fin cfg0.N, win0_4.index t = ![t.val / 6, 0, t.val % 6, 0, 0] := by decide +kernel
/-- Window 5's block, likewise. -/
theorem idx5 : ∀ t : Fin cfg0.N, win0_5.index t = ![t.val / 6, t.val % 6, 0, 0] := by decide +kernel
/-- Window 0's block is the whole array, -/
theorem idx0 : ∀ t : Fin cfg0.N, win0_0.index t = ![0, 0, 0] := by decide +kernel
/-- as is window 1's, -/
theorem idx1 : ∀ t : Fin cfg0.N, win0_1.index t = ![0, 0] := by decide +kernel
/-- and window 3's. -/
theorem idx3 : ∀ t : Fin cfg0.N, win0_3.index t = ![0, 0, 0] := by decide +kernel

/-- The launch finds the sequences transposed and laid out in 48 slabs, -/
theorem slabs_entry (c : Dev nD) : V m c main_call0_v1 = shapeCast S48x21x2048 (transpose S8x6x21x4x512 [0, 2, 4, 1, 3] (m ((c.tc : Thread nD τ).loc main_arg0)) transposes_S8x4x6x512x21_S8x6x21x4x512_0_2_4_1_3) shapeCasts_S8x6x21x4x512_S48x21x2048 := by
  show StableHlo.after hostOps0 (fun b => m (c, b)) (Proc.devRef .tc _) = _
  unfold hostOps0
  simp only [StableHlo.after_cons, StableHlo.after_nil]
  after_results_simp <;> rfl
/-- and the base frequencies as one row. -/
theorem base_entry (c : Dev nD) : V m c main_call0_v2 = shapeCast S1x21 (m ((c.tc : Thread nD τ).loc main_arg2)) shapeCasts_S21_S1x21 := by
  show StableHlo.after hostOps0 (fun b => m (c, b)) (Proc.devRef .tc _) = _
  unfold hostOps0
  simp only [StableHlo.after_cons, StableHlo.after_nil]
  after_results_simp <;> rfl

/-- A slab's entry is a sequence's. -/
theorem slab_read (X : Vec Ideal S8x4x6x512x21 .f32) (b : Fin 48) (T : Fin 8) (f : Fin 6) (hb : b.val = 6 * T.val + f.val) (n : Fin 4) (a : Fin 21) (l : Fin 2048) (s : Fin 512) (hl : l.val = 512 * n.val + s.val) :
    shapeCast S48x21x2048 (transpose S8x6x21x4x512 [0, 2, 4, 1, 3] X transposes_S8x4x6x512x21_S8x6x21x4x512_0_2_4_1_3) shapeCasts_S8x6x21x4x512_S48x21x2048 (ix3 b a l)
      = X (ix5 T n f s a) := by
  pointwise
  congr 1
  congr 1 <;> (apply Fin.ext; dsimp only; omega)

/-- What window 2 holds at a point is one of the sequences' residues. -/
theorem slab_in (c : Dev nD) (t : Fin cfg0.N) (T : Fin 8) (f : Fin 6) (ht : t.val = 6 * T.val + f.val) (n : Fin 4) (a : Fin 21) (l : Fin 2048) (s : Fin 512) (hl : l.val = 512 * n.val + s.val) :
   iblk m c 2 t (ix3 0 a l) = m ((c.tc : Thread nD τ).loc main_arg0) (ix5 T n f s a) := by
  have e : ((cfg0.win 2).blk t).view.emb (ix3 0 a l) = (ix3 ⟨t.val, by have := T.isLt; have := f.isLt; omega⟩ a l : S48x21x2048.Idx) := by
    funext x
    fin_cases x <;> apply Fin.ext <;> blk_simp [idx2 t] <;> simp
  show V m c main_call0_v1 (((cfg0.win 2).blk t).view.emb (ix3 0 a l)) = _
  rw [e, slabs_entry]
  exact slab_read _ _ T f ht n a l s hl

/-- Window 0 holds the logits. -/
theorem logits_in (c : Dev nD) (t : Fin cfg0.N) : (iblk m c 0 t : Vec Ideal S20x21x64 .f32) = m ((c.tc : Thread nD τ).loc main_arg1) := by
  funext y
  blk_ext [iblk, V, idx0 t]

/-- Window 1 holds the base frequencies. -/
theorem base_in (c : Dev nD) (t : Fin cfg0.N) (a : Fin 21) : (iblk m c 1 t : Vec Ideal S1x21 .f32) (ix2 0 a) = m ((c.tc : Thread nD τ).loc main_arg2) (ix1 a) := by
  have e : ((cfg0.win 1).blk t).view.emb (ix2 0 a) = (ix2 0 a : S1x21.Idx) := by
    funext x
    fin_cases x <;> apply Fin.ext <;> blk_simp [idx1 t] <;> simp
  show V m c main_call0_v2 (((cfg0.win 1).blk t).view.emb (ix2 0 a)) = _
  rw [e, base_entry]
  pointwise

end Cert.Conv
end
-- ==== Proof.Conv.Scores.lean ====
module

public import Idealize.ShloMosaic.Lib.Pipeline.ValueKit
public import Idealize.ShloMosaic.Lib.Pointwise
public import proofs.«01_k».proof.Proof.Conv.Block
public import proofs.«01_k».proof.Proof.Conv.Inputs

@[expose] public section

set_option maxRecDepth 16384

noncomputable section

namespace Cert.Conv

open Cert.KernelIdeal Cert.KernelIdeal.Gen
open Idealize.ShloMosaic
open Idealize.ShloMosaic.TcCoe

/-! The three arrays of the kernel's launch, entry by entry, as the convolution of the filters with the sequences. -/

/-- The convolution's entry: the filters' products with the 20 residues from place `p` on. -/
def score (R : Vec Ideal S20x21x64 .f32) (X : Vec Ideal S8x4x6x512x21 .f32) (T : Fin 8) (n : Fin 4) (f : Fin 6) (p : Fin 493) (u : Fin 64) : EReal :=
  ∑ k : Fin 20, ∑ a : Fin 21, R (ix3 k a u) * X (ix5 T n f ⟨p.val + k.val, by have := p.isLt; have := k.isLt; omega⟩ a)

variable (m : (ℓ : Loc nD τ sig) → Buf (Elt Ideal) ℓ)

/-- The filters in the narrow format are the filters. -/
theorem narrow_filters (p : Vec Ideal S20x21x64 .f32) (q : Vec Ideal S1x21 .f32) (j : S20x21x64.Idx) : k0_pay3 p q j = k0_pay2 p q j := by
  pointwise [k0_pay3]

/-- The slab in the narrow format is the slab. -/
theorem narrow_slab (x : Vec Ideal S1x21x2048 .f32) (a : Fin 21) (l : Fin 2048) : k0_pay17 x (ix2 a l) = x (ix3 0 a l) := by
  pointwise [k0_pay17]

/-- What point `6 T + f` holds in unit `u`'s row at place `p` of sequence `n` is the convolution's entry. -/
theorem place_score (c : Dev nD) (t : Fin cfg0.N) (T : Fin 8) (n n' : Fin 4) (f : Fin 6) (p p' : Fin 493) (u u' : Fin 64)
    (ht : t.val = 6 * T.val + f.val) (hn : n.val = n'.val) (hp : p.val = p'.val) (hu : u.val = u'.val) :
    place (acc (iblk m c 2 t) (View.ld (table m c) tr0) (View.ld (table m c) tr1) (View.ld (table m c) tr2)) u n p
      = score (filters m c) (m ((c.tc : Thread nD τ).loc main_arg0)) T n' f p' u' := by
  obtain rfl := Fin.ext hn
  obtain rfl := Fin.ext hp
  obtain rfl := Fin.ext hu
  unfold place table
  rw [ld_tab0, ld_tab1, ld_tab2, acc_at]
  unfold score tap
  refine Finset.sum_congr rfl fun k _ => Finset.sum_congr rfl fun a _ => ?_
  rw [narrow_filters, narrow_slab]
  refine congrArg₂ (· * ·) rfl ?_
  refine slab_in m c t T f ht n a _ ⟨p.val + k.val, by have := p.isLt; have := k.isLt; omega⟩ ?_
  have := p.isLt; have := k.isLt; have := n.isLt
  dsimp only
  omega

/-- The first array ends at the filters. -/
theorem final_filters (c : Dev nD) : (dats m 0 c).arrAt 3 cfg0.N = filters m c := by
  refine (dats m 0 c).arrAt_eq_of_covers 3 _ (by decide +kernel) fun t hf y => ?_
  blk_simp
  rw [after_3]
  refine congrArg (filters m c) ?_
  funext a
  apply Fin.ext
  blk_simp
  fin_cases a <;> simp [idx3 t]

/-- The second array ends at the convolution, a unit's places last. -/
theorem final_scores (c : Dev nD) : (dats m 0 c).arrAt 4 cfg0.N
    = (fun i => score (filters m c) (m ((c.tc : Thread nD τ).loc main_arg0)) (i 0) (i 1) (i 2) (i 4) (i 3) : S8x4x6x64x493.Idx → EReal) := by
  refine (dats m 0 c).arrAt_eq_of_covers 4 _ (by decide +kernel) fun t hf y => ?_
  blk_simp
  rw [after_4, zBlk_at]
  have h0 : (y 0).val < 1 := (y 0).isLt
  have h2 : (y 2).val < 1 := (y 2).isLt
  have ht : t.val < 48 := lt_of_lt_of_eq t.isLt (show cfg0.N = 48 from N_0)
  refine place_score m c t _ _ _ _ _ _ _ _ ?_ ?_ ?_ ?_ <;> blk_simp [idx4 t] <;> (try simp) <;> omega

/-- The third array ends at each row's greatest entry. -/
theorem final_tops (c : Dev nD) : (dats m 0 c).arrAt 5 cfg0.N
    = (fun i => top fun p => score (filters m c) (m ((c.tc : Thread nD τ).loc main_arg0)) (i 0) (i 2) (i 1) p (i 3) : S8x6x4x64.Idx → EReal) := by
  refine (dats m 0 c).arrAt_eq_of_covers 5 _ (by decide +kernel) fun t hf y => ?_
  blk_simp
  rw [after_5, sBlk_at]
  have h0 : (y 0).val < 1 := (y 0).isLt
  have h1 : (y 1).val < 1 := (y 1).isLt
  have ht : t.val < 48 := lt_of_lt_of_eq t.isLt (show cfg0.N = 48 from N_0)
  refine congrArg top (funext fun p => ?_)
  refine place_score m c t _ _ _ _ _ _ _ _ ?_ ?_ ?_ ?_ <;> blk_simp [idx5 t] <;> (try simp) <;> omega

end Cert.Conv
end
-- ==== Proof.Conv.Results.lean ====
module

public import Idealize.ShloMosaic.Lib.Pipeline.ValueKit
public import Idealize.ShloMosaic.Lib.Pointwise
public import Idealize.ShloMosaic.Lib.Claim
public import proofs.«01_k».proof.Proof.Conv.Scores

@[expose] public section

set_option maxRecDepth 16384

noncomputable section

namespace Cert.Conv

open Cert.KernelIdeal Cert.KernelIdeal.Gen
open Idealize.ShloMosaic
open Idealize.ShloMosaic.TcCoe

/-! The three results of a run of the idealized kernel. -/

variable (m : (ℓ : Loc nD τ sig) → Buf (Elt Ideal) ℓ)

/-- The scores, of filters and sequences. -/
def scores (R : Vec Ideal S20x21x64 .f32) (X : Vec Ideal S8x4x6x512x21 .f32) : Vec Ideal S8x4x6x493x64 .f32 :=
  fun i => score R X (i 0) (i 1) (i 2) (i 3) (i 4)

/-- Their greatest over the places. -/
def tops (R : Vec Ideal S20x21x64 .f32) (X : Vec Ideal S8x4x6x512x21 .f32) : Vec Ideal S8x4x6x64 .f32 :=
  fun i => top fun p => score R X (i 0) (i 1) (i 2) p (i 3)

/-- The host lines after the launch read an array of it as the launch leaves it. -/
theorem left_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr _ launch0.win.arr_inj c (V0 m c) _ w

/-- The second result is the third array with its middle axes exchanged, -/
theorem tail_tops (c : Dev nD) : Pipeline.afterTail₀ cfgs (dats m) 0 (V0 m) [hostOps1] c main_v0_1
    = transpose S8x4x6x64 [0, 2, 1, 3] ((dats m 0 c).arrAt 5 cfg0.N) transposes_S8x6x4x64_S8x4x6x64_0_2_1_3 := by
  rw [← left_arr m c 5]
  show StableHlo.after hostOps1 _ (Proc.devRef .tc _) = _
  unfold hostOps1
  simp only [StableHlo.after_cons, StableHlo.after_nil]
  after_results_simp <;> rfl

/-- and the third the second array with its last two. -/
theorem tail_scores (c : Dev nD) : Pipeline.afterTail₀ cfgs (dats m) 0 (V0 m) [hostOps1] c main_v0_2
    = transpose S8x4x6x493x64 [0, 1, 2, 4, 3] ((dats m 0 c).arrAt 4 cfg0.N) transposes_S8x4x6x64x493_S8x4x6x493x64_0_1_2_4_3 := by
  rw [← left_arr m c 4]
  show StableHlo.after hostOps1 _ (Proc.devRef .tc _) = _
  unfold hostOps1
  simp only [StableHlo.after_cons, StableHlo.after_nil]
  after_results_simp <;> rfl

/-- The second result is the scores' maxima. -/
theorem result_tops (c : Dev nD) : Pipeline.afterTail₀ cfgs (dats m) 0 (V0 m) [hostOps1] c main_v0_1
    = tops (filters m c) (m ((c.tc : Thread nD τ).loc main_arg0)) := by
  rw [tail_tops, final_tops]
  funext i
  unfold tops
  pointwise

/-- The third result is the scores. -/
theorem result_scores (c : Dev nD) : Pipeline.afterTail₀ cfgs (dats m) 0 (V0 m) [hostOps1] c main_v0_2
    = scores (filters m c) (m ((c.tc : Thread nD τ).loc main_arg0)) := by
  rw [tail_scores, final_scores]
  funext i
  unfold scores
  pointwise

/-- A run of the idealized kernel ends with the filters, the scores' maxima and the scores in its results, and its
    arguments unchanged. -/
theorem kernel_values (ρ : Dev nD → PrngReg) : θ_run defs (onTc (τ := τ) (main (F := Ideal))) ⟨m, fun _ => 0, ρ⟩ (fun r => ∀ c : Dev nD,
      r.2.mem ((c.tc : Thread nD τ).loc main_v0_0) = filters m c
      ∧ r.2.mem ((c.tc : Thread nD τ).loc main_v0_1) = tops (filters m c) (m ((c.tc : Thread nD τ).loc main_arg0))
      ∧ r.2.mem ((c.tc : Thread nD τ).loc main_v0_2) = scores (filters m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1.1 c).1 3).trans (final_filters m c),
      ((h.1.1 c).2 main_v0_1 (Pipeline.mem_restRefs_of main_v0_1 (by decide) (by decide))).trans (result_tops m c),
      ((h.1.1 c).2 main_v0_2 (Pipeline.mem_restRefs_of main_v0_2 (by decide) (by decide))).trans (result_scores m c),
      h.2.1 c⟩)
    (θ_run_and (run_all m ρ) (unchanged m ρ))

end Cert.Conv
end
-- ==== Proof.Conv.Reference.lean ====
module

public import Idealize.ShloMosaic.Lib.Pointwise
public import proofs.«01_k».proof.Proof.Gen.ReferenceIdeal
public import proofs.«01_k».proof.Proof.Gen.ReferenceIdeal.Run
public import proofs.«01_k».proof.Proof.Conv.Results

@[expose] public section

set_option maxRecDepth 16384

noncomputable section

namespace Cert.Conv.Ref

open Cert.ReferenceIdeal Cert.ReferenceIdeal.Gen
open Idealize.ShloMosaic
open Idealize.ShloMosaic.TcCoe

/-! What the reference's operations compute: its filters, and its scores as a sum of 20 shifted products. -/

/-- The greatest logit of each column, as the reference takes it. -/
def peak (L : FVec Ideal S20x21x64 .f32) : FVec Ideal S20x64 .f32 :=
  maximumf (broadcastInDim S20x64 ![] bcast_S_S20x64 (constant S_ .f32 0xFF800000#32)) (Host.reduce FloatOps.maximumf L (constant S_ .f32 0xFF800000#32) reducesTo_S20x21x64_S20x64_d1 h_S_)

/-- The exponentials of the logits below their column's greatest. -/
def exps (L : FVec Ideal S20x21x64 .f32) : FVec Ideal S20x21x64 .f32 :=
  Host.exp (subf L (broadcastInDim S20x21x64 ![0, 1, 2] bcast_S20x1x64_S20x21x64_0_1_2 (broadcastInDim S20x1x64 ![0, 2] bcast_S20x64_S20x1x64_0_2 (peak L))))

/-- The reference's filters. -/
def ratios (L : FVec Ideal S20x21x64 .f32) (Q : FVec Ideal S21 .f32) : FVec Ideal S20x21x64 .f32 :=
  Host.log (maximumf (Host.divf (Host.divf (exps L) (broadcastInDim S20x21x64 ![0, 1, 2] bcast_S20x1x64_S20x21x64_0_1_2 (broadcastInDim S20x1x64 ![0, 2] bcast_S20x64_S20x1x64_0_2 (Host.reduceAdd (exps L) (constant S_ .f32 0x00000000#32) reducesTo_S20x21x64_S20x64_d1 h_S_)))) (broadcastInDim S20x21x64 ![0, 1, 2] bcast_S1x21x1_S20x21x64_0_1_2 (broadcastInDim S1x21x1 ![1] bcast_S21_S1x21x1_1 Q))) (broadcastInDim S20x21x64 ![] bcast_S_S20x21x64 (constant S_ .f32 0x358637BD#32)))

/-- The sequences hold 493 places from any shift below 20, -/
theorem shift_fits (k : ℕ) (hk : k < 20) : S8x4x6x512x21.Slices ![0, 0, 0, k, 0] S8x4x6x493x21 :=
  ⟨rfl, fun a => by fin_cases a <;> simp <;> omega⟩

/-- and there are 20 filters. -/
theorem filter_fits (k : ℕ) (hk : k < 20) : S20x21x64.Slices ![k, 0, 0] S1x21x64 :=
  ⟨rfl, fun a => by fin_cases a <;> simp <;> omega⟩

/-- The product of the sequences shifted by `k` with filter `k`. -/
def term (R : FVec Ideal S20x21x64 .f32) (X : FVec Ideal S8x4x6x512x21 .f32) (k : ℕ) (hk : k < 20) : FVec Ideal S8x4x6x493x64 .f32 :=
  Host.dotGeneral dot_S8x4x6x493x21_S21x64_S8x4x6x493x64_4_0_0123_1_n_n none (extractStridedSlice S8x4x6x493x21 ![0, 0, 0, k, 0] X (shift_fits k hk))
    (shapeCast S21x64 (extractStridedSlice S1x21x64 ![k, 0, 0] R (filter_fits k hk)) shapeCasts_S1x21x64_S21x64)

/-- The sum of the first `n` products, in the reference's order. -/
def partialSum (R : FVec Ideal S20x21x64 .f32) (X : FVec Ideal S8x4x6x512x21 .f32) : (n : ℕ) → n ≤ 20 → FVec Ideal S8x4x6x493x64 .f32
  | 0, _ => broadcastInDim S8x4x6x493x64 ![] bcast_S_S8x4x6x493x64 (constant S_ .f32 0x00000000#32)
  | n + 1, h => addf (partialSum R X n (Nat.le_of_succ_le h)) (term R X n h)

/-- A product's entry. -/
theorem term_at (R : FVec Ideal S20x21x64 .f32) (X : FVec Ideal S8x4x6x512x21 .f32) (k : Fin 20) (T : Fin 8) (n : Fin 4) (f : Fin 6) (p : Fin 493) (u : Fin 64) :
    term R X k.val k.isLt (ix5 T n f p u) = ∑ a : Fin 21, R (ix3 k a u) * X (ix5 T n f ⟨p.val + k.val, by have := p.isLt; have := k.isLt; omega⟩ a) := by
  pointwise [term]
  refine Finset.sum_congr rfl fun a _ => ?_
  rw [mul_comm]
  refine congrArg (R (ix3 k a u) * ·) (congrArg X ?_)
  congr 1
  exact Fin.ext (Nat.add_comm _ _)

/-- The sum of the first products at an entry. -/
theorem partialSum_at (R : FVec Ideal S20x21x64 .f32) (X : FVec Ideal S8x4x6x512x21 .f32) (y : S8x4x6x493x64.Idx) :
    ∀ (n : ℕ) (h : n ≤ 20), partialSum R X n h y = ∑ k : Fin n, term R X k.val (lt_of_lt_of_le k.isLt h) y
  | 0, _ => by pointwise [partialSum]; exact Fin.sum_univ_zero _ |>.symm
  | n + 1, h => by
    rw [Fin.sum_univ_castSucc]
    show partialSum R X n _ y + term R X n h y = _
    rw [partialSum_at R X y n]
    rfl

/-- The sum of all the products is the convolution. -/
theorem partialSum_eq (R : FVec Ideal S20x21x64 .f32) (X : FVec Ideal S8x4x6x512x21 .f32) : partialSum R X 20 (le_refl _) = scores R X := by
  funext y
  rw [partialSum_at]
  unfold scores score
  refine Finset.sum_congr rfl fun k _ => ?_
  rw [← term_at R X k (y 0) (y 1) (y 2) (y 3) (y 4)]
  congr 1
  funext a
  fin_cases a <;> rfl

/-- A maximum that starts from a value is no less than it. -/
theorem max_start {n : ℕ} (b : EReal) (f : Fin n → EReal) : max b (Finset.univ.fold max b f) = Finset.univ.fold max b f :=
  max_eq_right ((Finset.le_fold_max b).2 (Or.inl le_rfl))

/-- The kernel's filters are the reference's. -/
theorem filters_eq (L : FVec Ideal S20x21x64 .f32) (q : FVec Ideal (⟨2, ![1, 21]⟩ : Shape) .f32) (Q : FVec Ideal S21 .f32) (h : ∀ a, q (ix2 0 a) = Q (ix1 a)) :
    Cert.KernelIdeal.Gen.k0_pay2 L q = ratios L Q := by
  funext y
  pointwise [Cert.KernelIdeal.Gen.k0_pay2, ratios, exps, peak]
  rw [max_start]
  exact congrArg (fun z => Ideal.log (max (Ideal.div _ z) _)) (h (y 1))

/-- The greatest of an array's entries over its fourth axis. -/
theorem tops_of (Z : FVec Ideal S8x4x6x493x64 .f32) (y : S8x4x6x64.Idx) :
    Host.reduce (FloatOps.maximumf (F := Ideal) (φ := .f32)) Z (constant S_ .f32 0xFF800000#32) reducesTo_S8x4x6x493x64_S8x4x6x64_d3 h_S_ y
      = top fun p => Z (ix5 (y 0) (y 1) (y 2) p (y 3)) := by
  pointwise
  rfl

variable (m : (ℓ : Loc nD τ sig) → Buf (Elt Ideal) ℓ)

/-- The reference's scores are the sum of all 20. -/
theorem out_scores (c : Dev nD) : Value.res_main_v117 m c
    = partialSum (ratios (m ((c.tc : Thread nD τ).loc main_arg1)) (m ((c.tc : Thread nD τ).loc main_arg2))) (m ((c.tc : Thread nD τ).loc main_arg0)) 20 (le_refl _) := rfl

/-- The reference's second result is its scores' greatest. -/
theorem out_tops (c : Dev nD) : Value.res_main_v118 m c
    = Host.reduce (FloatOps.maximumf (F := Ideal) (φ := .f32)) (Value.res_main_v117 m c : FVec Ideal S8x4x6x493x64 .f32) (constant S_ .f32 0xFF800000#32) reducesTo_S8x4x6x493x64_S8x4x6x64_d3 h_S_ := rfl

/-- The reference's scores are the convolution of its filters. -/
theorem scores_value (c : Dev nD) : Value.res_main_v117 m c
    = scores (ratios (m ((c.tc : Thread nD τ).loc main_arg1)) (m ((c.tc : Thread nD τ).loc main_arg2))) (m ((c.tc : Thread nD τ).loc main_arg0)) :=
  (out_scores m c).trans (partialSum_eq _ _)

/-- The reference's second result is the convolution's maxima. -/
theorem tops_value (c : Dev nD) : Value.res_main_v118 m c
    = tops (ratios (m ((c.tc : Thread nD τ).loc main_arg1)) (m ((c.tc : Thread nD τ).loc main_arg2))) (m ((c.tc : Thread nD τ).loc main_arg0)) := by
  rw [out_tops, scores_value]
  funext y
  exact tops_of _ y

/-- A run of the reference ends with its filters, the convolution's maxima and the convolution in its results, and its
    arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v16) = ratios (m ((c.tc : Thread nD τ).loc main_arg1)) (m ((c.tc : Thread nD τ).loc main_arg2))
      ∧ r.2.mem ((c.tc : Thread nD τ).loc main_v118) = tops (ratios (m ((c.tc : Thread nD τ).loc main_arg1)) (m ((c.tc : Thread nD τ).loc main_arg2))) (m ((c.tc : Thread nD τ).loc main_arg0))
      ∧ r.2.mem ((c.tc : Thread nD τ).loc main_v117) = scores (ratios (m ((c.tc : Thread nD τ).loc main_arg1)) (m ((c.tc : Thread nD τ).loc main_arg2))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1, (h c).2.1.trans (tops_value m c), (h c).2.2.1.trans (scores_value m c), (h c).2.2.2⟩)
    (Value.run (F := Ideal) m ρ)

end Cert.Conv.Ref
end
-- ==== Proof.Conv.Equal.lean ====
module

public import proofs.«01_k».proof.Defs
public import proofs.«01_k».proof.Proof.Conv.Results
public import proofs.«01_k».proof.Proof.Conv.Reference

@[expose] public section

set_option maxRecDepth 16384

noncomputable section

namespace Cert.Conv

open Idealize.ShloMosaic
open Idealize.ShloMosaic.TcCoe

/-! The idealized kernel's results are the reference's. -/

/-- The filters a run of the kernel computes are the reference's, of the same logits and base frequencies. -/
theorem filters_are (m : (ℓ : Loc Cert.KernelIdeal.nD Cert.KernelIdeal.τ Cert.KernelIdeal.sig) → Buf (Elt Ideal) ℓ) (c : Dev Cert.KernelIdeal.nD) :
    filters m c = Ref.ratios (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
  unfold filters filt
  rw [logits_in]
  exact Ref.filters_eq _ _ _ (base_in m c pt0)

/-- From arguments that agree, the kernel and the reference end with the same filters, maxima and scores. -/
theorem same_results : Cert.algebraic_KernelIdeal_ReferenceIdeal := by
  intro m g m' g' _ hagree
  refine ⟨_, _, _, kernel_values m g, (θ_run Cert.ReferenceIdeal.defs _ _).mono (fun r h c => ?_) (Ref.values m' g')⟩
  obtain ⟨e0, e1, e2⟩ := hagree c
  obtain ⟨h0, h1, h2, hargs⟩ := h c
  refine ⟨h0.trans ?_, h1.trans ?_, h2.trans ?_, hargs⟩
  · rw [e1, e2]; exact (filters_are m c).symm
  · rw [e0, e1, e2, filters_are m c]
  · rw [e0, e1, e2, filters_are m c]

end Cert.Conv
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Conv.Region
public import proofs.«01_k».proof.Proof.Conv.Same
public import proofs.«01_k».proof.Proof.Conv.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its three arguments unchanged and every semaphore at zero. -/
theorem reference_frame : Cert.quiescent_ReferenceIdeal := fun m g _ =>
  (θ_run Cert.ReferenceIdeal.defs _ _).mono
    (fun r h => ⟨fun c => ⟨(h c).2.2.2.1, (h c).2.2.2.2.1, (h c).2.2.2.2.2⟩,
      Idealize.ShloMosaic.sem_eq_zero_of_no_sems (by decide) r.2⟩)
    (Cert.ReferenceIdeal.Value.run (F := Ideal) m g)

/-- The certificate's claims. -/
theorem claim : Cert.Claim := ⟨Cert.Kernel.Gen.facts, Cert.KernelIdeal.Gen.facts, Cert.ReferenceIdeal.Gen.facts,
  Cert.Conv.kernel_frame,
  fun m g _ => Cert.Conv.unchanged m g,
  reference_frame,
  trivial,
  Cert.Conv.same_results⟩

end Cert.Proof

end
